-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_right_of_padding [hPre_boxes_right_of_padding : Cert.Pre_boxes_right_of_padding.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_right_of_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_right_of_padding [hPre_boxes_right_of_padding : Cert.Pre_boxes_right_of_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_right_of_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_right_of_padding [hKernelIdeal : Cert.KernelIdeal.Facts] [hPre_boxes_right_of_padding : Cert.Pre_boxes_right_of_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_right_of_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_right_of_padding [hReferenceIdeal : Cert.ReferenceIdeal.Facts] [hPre_boxes_right_of_padding : Cert.Pre_boxes_right_of_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_right_of_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_right_of_padding [hKernelIdeal : Cert.KernelIdeal.Facts] [hReferenceIdeal : Cert.ReferenceIdeal.Facts] [hPre_boxes_right_of_padding : Cert.Pre_boxes_right_of_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_right_of_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_right_of_padding : Cert.Pre_boxes_right_of_padding.Facts),
    quiescent_Kernel (hKernel := hKernel)
    ∧ quiescent_KernelIdeal (hKernelIdeal := hKernelIdeal)
    ∧ quiescent_KernelIdeal_pre_boxes_right_of_padding (hKernelIdeal := hKernelIdeal) (hPre_boxes_right_of_padding := hPre_boxes_right_of_padding)
    ∧ quiescent_ReferenceIdeal (hReferenceIdeal := hReferenceIdeal)
    ∧ quiescent_ReferenceIdeal_pre_boxes_right_of_padding (hReferenceIdeal := hReferenceIdeal) (hPre_boxes_right_of_padding := hPre_boxes_right_of_padding)
    ∧ preserves_Kernel_KernelIdeal
    ∧ algebraic_KernelIdeal_ReferenceIdeal_pre_boxes_right_of_padding (hKernelIdeal := hKernelIdeal) (hReferenceIdeal := hReferenceIdeal) (hPre_boxes_right_of_padding := hPre_boxes_right_of_padding)
-- ==== Pre_boxes_right_of_padding.lean ====
abbrev S8x20000x4 : Shape := ⟨3, ![8, 20000, 4]⟩
abbrev S1x20000x4 : Shape := ⟨3, ![1, 20000, 4]⟩
abbrev S8x32x5 : Shape := ⟨3, ![8, 32, 5]⟩
abbrev S8x32x1 : Shape := ⟨3, ![8, 32, 1]⟩
abbrev S8x32 : Shape := ⟨2, ![8, 32]⟩
abbrev S_ : Shape := ⟨0, ![]⟩

class Facts : Prop where
  slices_S8x32x5_S8x32x1_0_0_0 : S8x32x5.Slices ![0, 0, 0] S8x32x1
  shapeCasts_S8x32x1_S8x32 : S8x32x1.ShapeCasts S8x32
  bcast_S_S8x32 : S_.BroadcastsInDim S8x32 (![] : Fin 0 → Fin S8x32.rank)
  reducesTo_S8x32_S_d0_1 : S8x32.ReducesTo [0, 1] S_
  h_S_ : 0 < S_.numel

variable [Facts]

def fn {F : FTy → Type} [FloatOps F] (main_arg0 : FVec F S8x20000x4 .f32) (main_arg1 : FVec F S1x20000x4 .f32) (main_arg2 : FVec F S8x32x5 .f32) : IVec S_ 1 :=
  let main_v0 : FVec F S8x32x1 .f32 := (extractStridedSlice S8x32x1 ![0, 0, 0] · slices_S8x32x5_S8x32x1_0_0_0) main_arg2
  let main_v1 : FVec F S8x32 .f32 := shapeCast S8x32 main_v0 shapeCasts_S8x32x1_S8x32
  let main_cst : FVec F S_ .f32 := constant S_ .f32 0xC61C3C00#32
  let main_v2 : FVec F S8x32 .f32 := broadcastInDim S8x32 ![] bcast_S_S8x32 main_cst
  let main_v3 : IVec S8x32 1 := cmpf .oge main_v1 main_v2
  let main_c : IVec S_ 1 := constantI S_ 1 1#1
  let main_v4 : IVec S_ 1 := (fun x v => Host.reduce IntOp.andi x v reducesTo_S8x32_S_d0_1 h_S_) main_v3 main_c
  main_v4
-- ==== Kernel.lean ====
abbrev S8x20000x4 : Shape := ⟨3, ![8, 20000, 4]⟩
abbrev S1x20000x4 : Shape := ⟨3, ![1, 20000, 4]⟩
abbrev S8x32x5 : Shape := ⟨3, ![8, 32, 5]⟩
abbrev S4 : Shape := ⟨1, ![4]⟩
abbrev S20000x4 : Shape := ⟨2, ![20000, 4]⟩
abbrev S480x4 : Shape := ⟨2, ![480, 4]⟩
abbrev S20480x4 : Shape := ⟨2, ![20480, 4]⟩
abbrev S4x20480 : Shape := ⟨2, ![4, 20480]⟩
abbrev S4x160x128 : Shape := ⟨3, ![4, 160, 128]⟩
abbrev S_ : Shape := ⟨0, ![]⟩
abbrev S8x480x4 : Shape := ⟨3, ![8, 480, 4]⟩
abbrev S8x20480x4 : Shape := ⟨3, ![8, 20480, 4]⟩
abbrev S8x4x20480 : Shape := ⟨3, ![8, 4, 20480]⟩
abbrev S8x4x160x128 : Shape := ⟨4, ![8, 4, 160, 128]⟩
abbrev S8x2 : Shape := ⟨2, ![8, 2]⟩
abbrev S4x16x128 : Shape := ⟨3, ![4, 16, 128]⟩
abbrev S1x4x16x128 : Shape := ⟨4, ![1, 4, 16, 128]⟩
abbrev S1x16x128 : Shape := ⟨3, ![1, 16, 128]⟩
abbrev S16x128 : Shape := ⟨2, ![16, 128]⟩
abbrev S1x1x1 : Shape := ⟨3, ![1, 1, 1]⟩
abbrev S1x1x16x128 : Shape := ⟨4, ![1, 1, 16, 128]⟩
abbrev S1x1 : Shape := ⟨2, ![1, 1]⟩
abbrev S1 : Shape := ⟨1, ![1]⟩

abbrev nBuf : Space → Nat
  | .hbm => 17
  | .vmem => 4
  | .smem => 4
  | _ => 0

abbrev bufTy : (tb : Table) → Fin (tcTables nBuf tb) → BufTy
  | .hbm, ⟨0, _⟩ => ⟨S8x20000x4, .f32⟩
  | .hbm, ⟨1, _⟩ => ⟨S1x20000x4, .f32⟩
  | .hbm, ⟨2, _⟩ => ⟨S8x32x5, .f32⟩
  | .hbm, ⟨3, _⟩ => ⟨S4, .f32⟩
  | .hbm, ⟨4, _⟩ => ⟨S20000x4, .f32⟩
  | .hbm, ⟨5, _⟩ => ⟨S480x4, .f32⟩
  | .hbm, ⟨6, _⟩ => ⟨S20480x4, .f32⟩
  | .hbm, ⟨7, _⟩ => ⟨S4x20480, .f32⟩
  | .hbm, ⟨8, _⟩ => ⟨S4x160x128, .f32⟩
  | .hbm, ⟨9, _⟩ => ⟨S_, .f32⟩
  | .hbm, ⟨10, _⟩ => ⟨S8x480x4, .f32⟩
  | .hbm, ⟨11, _⟩ => ⟨S8x20480x4, .f32⟩
  | .hbm, ⟨12, _⟩ => ⟨S8x4x20480, .f32⟩
  | .hbm, ⟨13, _⟩ => ⟨S8x4x160x128, .f32⟩
  | .hbm, ⟨14, _⟩ => ⟨S8x2, .f32⟩
  | .hbm, ⟨15, _⟩ => ⟨S1x1, .f32⟩
  | .hbm, ⟨16, _⟩ => ⟨S1, .f32⟩
  | .local _ .vmem, ⟨0, _⟩ => ⟨S4x16x128, .f32⟩
  | .local _ .vmem, ⟨1, _⟩ => ⟨S4x16x128, .f32⟩
  | .local _ .vmem, ⟨2, _⟩ => ⟨S1x4x16x128, .f32⟩
  | .local _ .vmem, ⟨3, _⟩ => ⟨S1x4x16x128, .f32⟩
  | .local _ .smem, ⟨0, _⟩ => ⟨S8x32x5, .f32⟩
  | .local _ .smem, ⟨1, _⟩ => ⟨S8x2, .f32⟩
  | .local _ .smem, ⟨2, _⟩ => ⟨S8x2, .f32⟩
  | .local _ .smem, ⟨3, _⟩ => ⟨S1x1, .f32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_stg3_0 : Ref sig .tc := ⟨.smem, 1, rfl⟩
abbrev cc1_stg0_0 : Ref sig .tc := ⟨.smem, 2, rfl⟩
abbrev cc1_stg1_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨2, ![8, 10], ![false, false]⟩

@[reducible] def k0_t1_loop : Scf.Loop 32 :=
  let c0_i32 : BitVec 32 := 0#32
  let c32_i32 : BitVec 32 := 32#32
  let v24 : BitVec 32 := Scalar.addi c0_i32 c32_i32
  let c1_i32 : BitVec 32 := 1#32
  ⟨c0_i32, v24, c1_i32⟩
def k0_off1 (i : grid0.Coords) (k0_t1 : Fin k0_t1_loop.trips) : Fin 3 → Nat :=
  let arg0 : BitVec 32 := BitVec.ofNat 32 (i 0).val
  let v112 : Index := Scalar.indexCast arg0
  let c0_i32 : BitVec 32 := 0#32
  let c1_i32 : BitVec 32 := 1#32
  let arg6 : BitVec 32 := Scf.iv c0_i32 c1_i32 k0_t1
  let v113 : Index := Scalar.indexCast arg6
  let c0_51 : Index := 0#32
  ![v112.toNat, v113.toNat, 0]
def k0_off2 (i : grid0.Coords) (k0_t1 : Fin k0_t1_loop.trips) : Fin 3 → Nat :=
  let arg0 : BitVec 32 := BitVec.ofNat 32 (i 0).val
  let v115 : Index := Scalar.indexCast arg0
  let c0_i32 : BitVec 32 := 0#32
  let c1_i32 : BitVec 32 := 1#32
  let arg6 : BitVec 32 := Scf.iv c0_i32 c1_i32 k0_t1
  let v116 : Index := Scalar.indexCast arg6
  let c1_52 : Index := 1#32
  ![v115.toNat, v116.toNat, 1]
def k0_off3 (i : grid0.Coords) (k0_t1 : Fin k0_t1_loop.trips) : Fin 3 → Nat :=
  let arg0 : BitVec 32 := BitVec.ofNat 32 (i 0).val
  let v118 : Index := Scalar.indexCast arg0
  let c0_i32 : BitVec 32 := 0#32
  let c1_i32 : BitVec 32 := 1#32
  let arg6 : BitVec 32 := Scf.iv c0_i32 c1_i32 k0_t1
  let v119 : Index := Scalar.indexCast arg6
  let c2_53 : Index := 2#32
  ![v118.toNat, v119.toNat, 2]
def k0_off4 (i : grid0.Coords) (k0_t1 : Fin k0_t1_loop.trips) : Fin 3 → Nat :=
  let arg0 : BitVec 32 := BitVec.ofNat 32 (i 0).val
  let v121 : Index := Scalar.indexCast arg0
  let c0_i32 : BitVec 32 := 0#32
  let c1_i32 : BitVec 32 := 1#32
  let arg6 : BitVec 32 := Scf.iv c0_i32 c1_i32 k0_t1
  let v122 : Index := Scalar.indexCast arg6
  let c3_54 : Index := 3#32
  ![v121.toNat, v122.toNat, 3]
def k0_cond1 (i : grid0.Coords) : BitVec 1 :=
  let arg1 : BitVec 32 := BitVec.ofNat 32 (i 1).val
  let c0_i32_43 : BitVec 32 := 0#32
  let v89 : BitVec 1 := Scalar.cmpi .eq arg1 c0_i32_43
  let v90 : BitVec 32 := Scalar.extui v89
  let c0_i32_44 : BitVec 32 := 0#32
  let v91 : BitVec 1 := Scalar.cmpi .ne v90 c0_i32_44
  v91

def k0_off5 (i : grid0.Coords) : Fin 2 → Nat :=
  let arg0 : BitVec 32 := BitVec.ofNat 32 (i 0).val
  let v112 : Index := Scalar.indexCast arg0
  let c0_52 : Index := 0#32
  ![v112.toNat, 0]
def k0_off6 (i : grid0.Coords) : Fin 2 → Nat :=
  let arg0 : BitVec 32 := BitVec.ofNat 32 (i 0).val
  let v114 : Index := Scalar.indexCast arg0
  let c1_54 : Index := 1#32
  ![v114.toNat, 1]
def k0_off7 (i : grid0.Coords) : Fin 2 → Nat :=
  let arg0 : BitVec 32 := BitVec.ofNat 32 (i 0).val
  let v92 : Index := Scalar.indexCast arg0
  let c0_45 : Index := 0#32
  ![v92.toNat, 0]
def k0_off8 (i : grid0.Coords) : Fin 2 → Nat :=
  let arg0 : BitVec 32 := BitVec.ofNat 32 (i 0).val
  let v101 : Index := Scalar.indexCast arg0
  let c1_48 : Index := 1#32
  ![v101.toNat, 1]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S8x32x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S8x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := .none

abbrev stage1_0 : Fin 1 → Memref sig .tc .smem S8x2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S8x20000x4 : Shape := ⟨3, ![8, 20000, 4]⟩
abbrev S1x20000x4 : Shape := ⟨3, ![1, 20000, 4]⟩
abbrev S8x32x5 : Shape := ⟨3, ![8, 32, 5]⟩
abbrev S20000x4 : Shape := ⟨2, ![20000, 4]⟩
abbrev S20000x1 : Shape := ⟨2, ![20000, 1]⟩
abbrev S20000 : Shape := ⟨1, ![20000]⟩
abbrev S_ : Shape := ⟨0, ![]⟩
abbrev S8x32x4 : Shape := ⟨3, ![8, 32, 4]⟩
abbrev S8x32x1 : Shape := ⟨3, ![8, 32, 1]⟩
abbrev S8x32 : Shape := ⟨2, ![8, 32]⟩
abbrev S8x1x32 : Shape := ⟨3, ![8, 1, 32]⟩
abbrev S1x20000x1 : Shape := ⟨3, ![1, 20000, 1]⟩
abbrev S8x20000x32 : Shape := ⟨3, ![8, 20000, 32]⟩
abbrev S8x20000 : Shape := ⟨2, ![8, 20000]⟩
abbrev S8x20000x1 : Shape := ⟨3, ![8, 20000, 1]⟩
abbrev S8x20000x5 : Shape := ⟨3, ![8, 20000, 5]⟩
abbrev S1x20000 : Shape := ⟨2, ![1, 20000]⟩
abbrev S8 : Shape := ⟨1, ![8]⟩
abbrev S1 : Shape := ⟨1, ![1]⟩

abbrev nBuf : Space → Nat
  | .hbm => 235
  | .vmem => 0
  | .smem => 0
  | _ => 0

abbrev hbmTy0_0 (i : Nat) : BufTy := match i % 128 with
  | 0 => ⟨S8x20000x4, .f32⟩
  | 1 => ⟨S1x20000x4, .f32⟩
  | 2 => ⟨S8x32x5, .f32⟩
  | 3 => ⟨S20000x4, .f32⟩
  | 4 => ⟨S20000x1, .f32⟩
  | 5 => ⟨S20000, .f32⟩
  | 6 => ⟨S20000x1, .f32⟩
  | 7 => ⟨S20000, .f32⟩
  | 8 => ⟨S20000, .f32⟩
  | 9 => ⟨S20000x1, .f32⟩
  | 10 => ⟨S20000, .f32⟩
  | 11 => ⟨S20000x1, .f32⟩
  | 12 => ⟨S20000, .f32⟩
  | 13 => ⟨S20000, .f32⟩
  | 14 => ⟨S20000x1, .f32⟩
  | 15 => ⟨S20000, .f32⟩
  | 16 => ⟨S_, .f32⟩
  | 17 => ⟨S20000, .f32⟩
  | 18 => ⟨S20000, .f32⟩
  | 19 => ⟨S20000, .f32⟩
  | 20 => ⟨S20000x1, .f32⟩
  | 21 => ⟨S20000, .f32⟩
  | 22 => ⟨S_, .f32⟩
  | 23 => ⟨S20000, .f32⟩
  | 24 => ⟨S20000, .f32⟩
  | 25 => ⟨S20000, .f32⟩
  | 26 => ⟨S8x32x4, .f32⟩
  | 27 => ⟨S8x32x1, .f32⟩
  | 28 => ⟨S8x32, .f32⟩
  | 29 => ⟨S8x32x1, .f32⟩
  | 30 => ⟨S8x32, .f32⟩
  | 31 => ⟨S8x32, .f32⟩
  | 32 => ⟨S8x32x1, .f32⟩
  | 33 => ⟨S8x32, .f32⟩
  | 34 => ⟨S8x32x1, .f32⟩
  | 35 => ⟨S8x32, .f32⟩
  | 36 => ⟨S8x32, .f32⟩
  | 37 => ⟨S8x32, .f32⟩
  | 38 => ⟨S20000x1, .f32⟩
  | 39 => ⟨S20000, .f32⟩
  | 40 => ⟨S20000x1, .f32⟩
  | 41 => ⟨S8x32x1, .f32⟩
  | 42 => ⟨S8x32, .f32⟩
  | 43 => ⟨S8x1x32, .f32⟩
  | 44 => ⟨S1x20000x1, .f32⟩
  | 45 => ⟨S8x20000x32, .f32⟩
  | 46 => ⟨S8x20000x32, .f32⟩
  | 47 => ⟨S8x20000x32, .f32⟩
  | 48 => ⟨S20000x1, .f32⟩
  | 49 => ⟨S20000, .f32⟩
  | 50 => ⟨S20000x1, .f32⟩
  | 51 => ⟨S8x32x1, .f32⟩
  | 52 => ⟨S8x32, .f32⟩
  | 53 => ⟨S8x1x32, .f32⟩
  | 54 => ⟨S1x20000x1, .f32⟩
  | 55 => ⟨S8x20000x32, .f32⟩
  | 56 => ⟨S8x20000x32, .f32⟩
  | 57 => ⟨S8x20000x32, .f32⟩
  | 58 => ⟨S8x20000x32, .f32⟩
  | 59 => ⟨S20000x1, .f32⟩
  | 60 => ⟨S20000, .f32⟩
  | 61 => ⟨S20000x1, .f32⟩
  | 62 => ⟨S8x32x1, .f32⟩
  | 63 => ⟨S8x32, .f32⟩
  | 64 => ⟨S8x1x32, .f32⟩
  | 65 => ⟨S1x20000x1, .f32⟩
  | 66 => ⟨S8x20000x32, .f32⟩
  | 67 => ⟨S8x20000x32, .f32⟩
  | 68 => ⟨S8x20000x32, .f32⟩
  | 69 => ⟨S20000x1, .f32⟩
  | 70 => ⟨S20000, .f32⟩
  | 71 => ⟨S20000x1, .f32⟩
  | 72 => ⟨S8x32x1, .f32⟩
  | 73 => ⟨S8x32, .f32⟩
  | 74 => ⟨S8x1x32, .f32⟩
  | 75 => ⟨S1x20000x1, .f32⟩
  | 76 => ⟨S8x20000x32, .f32⟩
  | 77 => ⟨S8x20000x32, .f32⟩
  | 78 => ⟨S8x20000x32, .f32⟩
  | 79 => ⟨S8x20000x32, .f32⟩
  | 80 => ⟨S_, .f32⟩
  | 81 => ⟨S_, .f32⟩
  | 82 => ⟨S8x20000x32, .f32⟩
  | 83 => ⟨S8x20000x32, .f32⟩
  | 84 => ⟨S_, .f32⟩
  | 85 => ⟨S_, .f32⟩
  | 86 => ⟨S8x20000x32, .f32⟩
  | 87 => ⟨S8x20000x32, .f32⟩
  | 88 => ⟨S20000x1, .f32⟩
  | 89 => ⟨S20000, .f32⟩
  | 90 => ⟨S20000x1, .f32⟩
  | 91 => ⟨S20000, .f32⟩
  | 92 => ⟨S20000, .f32⟩
  | 93 => ⟨S20000x1, .f32⟩
  | 94 => ⟨S20000, .f32⟩
  | 95 => ⟨S20000x1, .f32⟩
  | 96 => ⟨S20000, .f32⟩
  | 97 => ⟨S20000, .f32⟩
  | 98 => ⟨S20000, .f32⟩
  | 99 => ⟨S20000x1, .f32⟩
  | 100 => ⟨S8x1x32, .f32⟩
  | 101 => ⟨S1x20000x1, .f32⟩
  | 102 => ⟨S8x20000x32, .f32⟩
  | 103 => ⟨S8x20000x32, .f32⟩
  | 104 => ⟨S8x20000x32, .f32⟩
  | 105 => ⟨S8x20000x32, .f32⟩
  | 106 => ⟨S8x20000x32, .f32⟩
  | 107 => ⟨S_, .f32⟩
  | 108 => ⟨S_, .f32⟩
  | 109 => ⟨S8x20000x32, .f32⟩
  | 110 => ⟨S8x20000x32, .f32⟩
  | 111 => ⟨S8x20000x32, .f32⟩
  | 112 => ⟨S8x20000x32, .f32⟩
  | 113 => ⟨S_, .f32⟩
  | 114 => ⟨S8x20000, .f32⟩
  | 115 => ⟨S8x20000x32, .i32⟩
  | 116 => ⟨S_, .f32⟩
  | 117 => ⟨S_, .i32⟩
  | 118 => ⟨S8x20000, .f32⟩
  | 119 => ⟨S8x20000, .i32⟩
  | 120 => ⟨S_, .f32⟩
  | 121 => ⟨S8x20000, .f32⟩
  | 122 => ⟨S8x20000, .i1⟩
  | 123 => ⟨S_, .i32⟩
  | 124 => ⟨S8x20000, .i32⟩
  | 125 => ⟨S8x20000, .i1⟩
  | 126 => ⟨S_, .i32⟩
  | 127 => ⟨S8x20000, .i32⟩
  | _ => ⟨S8x20000x4, .f32⟩

abbrev hbmTy0_1 (i : Nat) : BufTy := match i % 128 with
  | 0 => ⟨S8x20000, .i32⟩
  | 1 => ⟨S8x20000, .i32⟩
  | 2 => ⟨S8x20000x1, .i32⟩
  | 3 => ⟨S8x20000x5, .f32⟩
  | 4 => ⟨S8x20000x1, .f32⟩
  | 5 => ⟨S8x20000, .f32⟩
  | 6 => ⟨S8x20000x1, .f32⟩
  | 7 => ⟨S8x20000, .f32⟩
  | 8 => ⟨S8x20000, .f32⟩
  | 9 => ⟨S8x20000x1, .f32⟩
  | 10 => ⟨S8x20000, .f32⟩
  | 11 => ⟨S8x20000x1, .f32⟩
  | 12 => ⟨S8x20000, .f32⟩
  | 13 => ⟨S8x20000, .f32⟩
  | 14 => ⟨S8x20000x1, .f32⟩
  | 15 => ⟨S8x20000, .f32⟩
  | 16 => ⟨S_, .f32⟩
  | 17 => ⟨S8x20000, .f32⟩
  | 18 => ⟨S8x20000, .f32⟩
  | 19 => ⟨S8x20000, .f32⟩
  | 20 => ⟨S8x20000x1, .f32⟩
  | 21 => ⟨S8x20000, .f32⟩
  | 22 => ⟨S_, .f32⟩
  | 23 => ⟨S8x20000, .f32⟩
  | 24 => ⟨S8x20000, .f32⟩
  | 25 => ⟨S8x20000, .f32⟩
  | 26 => ⟨S_, .f32⟩
  | 27 => ⟨S_, .f32⟩
  | 28 => ⟨S8x20000, .f32⟩
  | 29 => ⟨S8x20000, .f32⟩
  | 30 => ⟨S_, .f32⟩
  | 31 => ⟨S_, .f32⟩
  | 32 => ⟨S8x20000, .f32⟩
  | 33 => ⟨S8x20000, .f32⟩
  | 34 => ⟨S1x20000, .f32⟩
  | 35 => ⟨S8x20000, .f32⟩
  | 36 => ⟨S8x20000, .f32⟩
  | 37 => ⟨S1x20000, .f32⟩
  | 38 => ⟨S8x20000, .f32⟩
  | 39 => ⟨S8x20000, .f32⟩
  | 40 => ⟨S1x20000, .f32⟩
  | 41 => ⟨S8x20000, .f32⟩
  | 42 => ⟨S8x20000, .f32⟩
  | 43 => ⟨S1x20000, .f32⟩
  | 44 => ⟨S8x20000, .f32⟩
  | 45 => ⟨S8x20000, .f32⟩
  | 46 => ⟨S1x20000, .f32⟩
  | 47 => ⟨S8x20000, .f32⟩
  | 48 => ⟨S8x20000, .f32⟩
  | 49 => ⟨S8x20000, .f32⟩
  | 50 => ⟨S1x20000, .f32⟩
  | 51 => ⟨S8x20000, .f32⟩
  | 52 => ⟨S8x20000, .f32⟩
  | 53 => ⟨S8x20000, .f32⟩
  | 54 => ⟨S8x20000x1, .f32⟩
  | 55 => ⟨S8x20000x1, .f32⟩
  | 56 => ⟨S8x20000x1, .f32⟩
  | 57 => ⟨S8x20000x1, .f32⟩
  | 58 => ⟨S8x20000x4, .f32⟩
  | 59 => ⟨S8x20000x4, .f32⟩
  | 60 => ⟨S8x20000x4, .f32⟩
  | 61 => ⟨S_, .f32⟩
  | 62 => ⟨S8x20000x4, .f32⟩
  | 63 => ⟨S8x20000x4, .i1⟩
  | 64 => ⟨S8x20000x4, .f32⟩
  | 65 => ⟨S_, .f32⟩
  | 66 => ⟨S8x20000x4, .f32⟩
  | 67 => ⟨S8x20000x4, .f32⟩
  | 68 => ⟨S_, .f32⟩
  | 69 => ⟨S8x20000x4, .f32⟩
  | 70 => ⟨S8x20000x4, .f32⟩
  | 71 => ⟨S8x20000x4, .f32⟩
  | 72 => ⟨S8x20000x1, .i1⟩
  | 73 => ⟨S_, .f32⟩
  | 74 => ⟨S_, .f32⟩
  | 75 => ⟨S8x20000x4, .i1⟩
  | 76 => ⟨S20000x4, .f32⟩
  | 77 => ⟨S8x20000x4, .f32⟩
  | 78 => ⟨S8x20000x4, .f32⟩
  | 79 => ⟨S8x20000, .i32⟩
  | 80 => ⟨S_, .i32⟩
  | 81 => ⟨S8, .i32⟩
  | 82 => ⟨S_, .i32⟩
  | 83 => ⟨S8, .i32⟩
  | 84 => ⟨S8, .i1⟩
  | 85 => ⟨S_, .f32⟩
  | 86 => ⟨S8, .f32⟩
  | 87 => ⟨S_, .i32⟩
  | 88 => ⟨S8, .i32⟩
  | 89 => ⟨S8, .i32⟩
  | 90 => ⟨S8, .f32⟩
  | 91 => ⟨S_, .f32⟩
  | 92 => ⟨S8, .f32⟩
  | 93 => ⟨S8, .f32⟩
  | 94 => ⟨S8, .f32⟩
  | 95 => ⟨S_, .f32⟩
  | 96 => ⟨S8, .f32⟩
  | 97 => ⟨S8, .f32⟩
  | 98 => ⟨S_, .f32⟩
  | 99 => ⟨S_, .f32⟩
  | 100 => ⟨S1, .f32⟩
  | 101 => ⟨S_, .f32⟩
  | 102 => ⟨S1, .f32⟩
  | 103 => ⟨S1, .f32⟩
  | 104 => ⟨S_, .f32⟩
  | 105 => ⟨S1, .f32⟩
  | 106 => ⟨S1, .f32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_cst_1 : Ref sig .tc := ⟨.hbm, 80, rfl⟩
abbrev main_call0_v0 : Ref sig .tc := ⟨.hbm, 81, rfl⟩
abbrev main_call0_v1 : Ref sig .tc := ⟨.hbm, 82, rfl⟩
abbrev main_v75 : Ref sig .tc := ⟨.hbm, 83, rfl⟩
abbrev main_cst_2 : Ref sig .tc := ⟨.hbm, 84, rfl⟩
abbrev main_call1_v0 : Ref sig .tc := ⟨.hbm, 85, rfl⟩
abbrev main_call1_v1 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_cst_3 : Ref sig .tc := ⟨.hbm, 107, rfl⟩
abbrev main_call2_v0 : Ref sig .tc := ⟨.hbm, 108, rfl⟩
abbrev main_call2_v1 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_cst_4 : Ref sig .tc := ⟨.hbm, 113, rfl⟩
abbrev main_v99 : Ref sig .tc := ⟨.hbm, 114, rfl⟩
abbrev main_call3_v0 : Ref sig .tc := ⟨.hbm, 115, rfl⟩
abbrev main_call3_cst : Ref sig .tc := ⟨.hbm, 116, rfl⟩
abbrev main_call3_c : Ref sig .tc := ⟨.hbm, 117, rfl⟩
abbrev main_call3_v1_0 : Ref sig .tc := ⟨.hbm, 118, rfl⟩
abbrev main_v100 : Ref sig .tc := ⟨.hbm, 119, rfl⟩
abbrev main_cst_5 : Ref sig .tc := ⟨.hbm, 120, rfl⟩
abbrev main_v101 : Ref sig .tc := ⟨.hbm, 121, rfl⟩
abbrev main_v102 : Ref sig .tc := ⟨.hbm, 122, rfl⟩
abbrev main_c : Ref sig .tc := ⟨.hbm, 123, rfl⟩
abbrev main_v103 : Ref sig .tc := ⟨.hbm, 124, rfl⟩
abbrev main_v104 : Ref sig .tc := ⟨.hbm, 125, rfl⟩
abbrev main_c_6 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_7 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_8 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_9 : Ref sig .tc := ⟨.hbm, 154, rfl⟩
abbrev main_call4_v0 : Ref sig .tc := ⟨.hbm, 155, rfl⟩
abbrev main_call4_v1 : Ref sig .tc := ⟨.hbm, 156, rfl⟩
abbrev main_v130 : Ref sig .tc := ⟨.hbm, 157, rfl⟩
abbrev main_cst_10 : Ref sig .tc := ⟨.hbm, 158, rfl⟩
abbrev main_call5_v0 : Ref sig .tc := ⟨.hbm, 159, rfl⟩
abbrev main_call5_v1 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_cst_11 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_12 : Ref sig .tc := ⟨.hbm, 193, rfl⟩
abbrev main_v162 : Ref sig .tc := ⟨.hbm, 194, rfl⟩
abbrev main_v163 : Ref sig .tc := ⟨.hbm, 195, rfl⟩
abbrev main_cst_13 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_cst_14 : Ref sig .tc := ⟨.hbm, 201, rfl⟩
abbrev main_call7_v0 : Ref sig .tc := ⟨.hbm, 202, rfl⟩
abbrev main_call7_v1 : Ref sig .tc := ⟨.hbm, 203, rfl⟩
abbrev main_call7_v2 : Ref sig .tc := ⟨.hbm, 204, rfl⟩
abbrev main_call7_v3 : Ref sig .tc := ⟨.hbm, 205, rfl⟩
abbrev main_v168 : Ref sig .tc := ⟨.hbm, 206, rfl⟩
abbrev main_v169 : Ref sig .tc := ⟨.hbm, 207, rfl⟩
abbrev main_c_15 : Ref sig .tc := ⟨.hbm, 208, rfl⟩
abbrev main_v170 : Ref sig .tc := ⟨.hbm, 209, rfl⟩
abbrev main_c_16 : Ref sig .tc := ⟨.hbm, 210, rfl⟩
abbrev main_v171 : Ref sig .tc := ⟨.hbm, 211, rfl⟩
abbrev main_v172 : Ref sig .tc := ⟨.hbm, 212, rfl⟩
abbrev main_cst_17 : Ref sig .tc := ⟨.hbm, 213, rfl⟩
abbrev main_v173 : Ref sig .tc := ⟨.hbm, 214, rfl⟩
abbrev main_c_18 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_19 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_20 : Ref sig .tc := ⟨.hbm, 223, rfl⟩
abbrev main_call8_v0 : Ref sig .tc := ⟨.hbm, 224, rfl⟩
abbrev main_v180 : Ref sig .tc := ⟨.hbm, 225, rfl⟩
abbrev main_cst_21 : Ref sig .tc := ⟨.hbm, 226, rfl⟩
abbrev main_v181 : Ref sig .tc := ⟨.hbm, 227, rfl⟩
abbrev main_v182 : Ref sig .tc := ⟨.hbm, 228, rfl⟩
abbrev main_cst_22 : Ref sig .tc := ⟨.hbm, 229, rfl⟩
abbrev main_v183 : Ref sig .tc := ⟨.hbm, 230, rfl⟩
abbrev main_v184 : Ref sig .tc := ⟨.hbm, 231, rfl⟩
abbrev main_cst_23 : Ref sig .tc := ⟨.hbm, 232, rfl⟩
abbrev main_v185 : Ref sig .tc := ⟨.hbm, 233, rfl⟩
abbrev main_v186 : Ref sig .tc := ⟨.hbm, 234, rfl⟩

abbrev nD : Nat := 1
abbrev τ : Topo := Topo.v7x

variable {F : FTy → Type} [FloatOps F]
-- ==== Proof.KernelIdealBody.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pointwise.Index
public import Idealize.ShloMosaic.Lib.WritesUnit
public import Idealize.ShloMosaic.Lib.WordArith.Masks
public import Idealize.ShloMosaic.Lib.Ring
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one visit of the grid computes -/

/-- A block of anchors. -/
abbrev Blk (F : FTy → Type) := FVec F S16x128 .f32
/-- What the pass over the boxes carries: intersection and union of the best box, its centre and the logarithms of
    its sides, for each anchor of the block. -/
abbrev Carry (F : FTy → Type) := Blk F × Blk F × Blk F × Blk F × Blk F × Blk F

/-- One box of the pass: the anchors' four planes, the box's four numbers, what was carried. -/
def trip (v0 v2 v4 v6 : Vec F S1x16x128 .f32) (b : Fin 4 → F .f32) (a : Carry F) : Carry F :=
  (k0_pay12 (k0_pay14 v0) (k0_pay15 v2) (k0_pay16 v4) (k0_pay17 v6) (k0_pay20 v0 v2 v4 v6) a.1 a.2.1 (b 0) (b 1) (b 2) (b 3),
   k0_pay13 (k0_pay14 v0) (k0_pay15 v2) (k0_pay16 v4) (k0_pay17 v6) (k0_pay20 v0 v2 v4 v6) a.1 a.2.1 (b 0) (b 1) (b 2) (b 3),
   k0_pay24 a.2.2.1 (k0_pay5 (b 0) (b 2)) (k0_pay11 (k0_pay14 v0) (k0_pay15 v2) (k0_pay16 v4) (k0_pay17 v6) (k0_pay20 v0 v2 v4 v6) a.1 a.2.1 (b 0) (b 1) (b 2) (b 3)),
   k0_pay25 a.2.2.2.1 (k0_pay6 (b 1) (b 3)) (k0_pay11 (k0_pay14 v0) (k0_pay15 v2) (k0_pay16 v4) (k0_pay17 v6) (k0_pay20 v0 v2 v4 v6) a.1 a.2.1 (b 0) (b 1) (b 2) (b 3)),
   k0_pay26 a.2.2.2.2.1 (k0_pay7 (b 0) (b 2)) (k0_pay11 (k0_pay14 v0) (k0_pay15 v2) (k0_pay16 v4) (k0_pay17 v6) (k0_pay20 v0 v2 v4 v6) a.1 a.2.1 (b 0) (b 1) (b 2) (b 3)),
   k0_pay27 a.2.2.2.2.2 (k0_pay8 (b 1) (b 3)) (k0_pay11 (k0_pay14 v0) (k0_pay15 v2) (k0_pay16 v4) (k0_pay17 v6) (k0_pay20 v0 v2 v4 v6) a.1 a.2.1 (b 0) (b 1) (b 2) (b 3)))

/-- The pass after `k` boxes. -/
def pass (v0 v2 v4 v6 : Vec F S1x16x128 .f32) (box : ℕ → Fin 4 → F .f32) : ℕ → Carry F
  | 0 => (k0_pay22, k0_pay23, k0_pay21, k0_pay21, k0_pay21, k0_pay21)
  | k + 1 => trip v0 v2 v4 v6 (box k) (pass v0 v2 v4 v6 box k)

/-- The first four numbers of box `k` of image `b`. -/
def boxOf (x2 : Vec F S8x32x5 .f32) (b : Fin 8) (k : ℕ) (j : Fin 4) : F .f32 :=
  x2 (ix3 b ⟨k % 32, Nat.mod_lt _ (by decide)⟩ ⟨j.val, by omega⟩)

/-- The planes of a block of anchors. -/
abbrev plane0 (x0 : Vec F S4x16x128 .f32) : Vec F S1x16x128 .f32 := View.ld x0 (Rect.unit (s := S4x16x128) ![0, 0, 0] S1x16x128.size inb_S4x16x128_S1x16x128_0_0_0)
abbrev plane1 (x0 : Vec F S4x16x128 .f32) : Vec F S1x16x128 .f32 := View.ld x0 (Rect.unit (s := S4x16x128) ![1, 0, 0] S1x16x128.size inb_S4x16x128_S1x16x128_1_0_0)
abbrev plane2 (x0 : Vec F S4x16x128 .f32) : Vec F S1x16x128 .f32 := View.ld x0 (Rect.unit (s := S4x16x128) ![2, 0, 0] S1x16x128.size inb_S4x16x128_S1x16x128_2_0_0)
abbrev plane3 (x0 : Vec F S4x16x128 .f32) : Vec F S1x16x128 .f32 := View.ld x0 (Rect.unit (s := S4x16x128) ![3, 0, 0] S1x16x128.size inb_S4x16x128_S1x16x128_3_0_0)
/-- The channels of a block of regressions. -/
abbrev chan0 (x1 : Vec F S1x4x16x128 .f32) : Vec F S1x1x16x128 .f32 := View.ld x1 (Rect.unit (s := S1x4x16x128) ![0, 0, 0, 0] S1x1x16x128.size inb_S1x4x16x128_S1x1x16x128_0_0_0_0)
abbrev chan1 (x1 : Vec F S1x4x16x128 .f32) : Vec F S1x1x16x128 .f32 := View.ld x1 (Rect.unit (s := S1x4x16x128) ![0, 1, 0, 0] S1x1x16x128.size inb_S1x4x16x128_S1x1x16x128_0_1_0_0)
abbrev chan2 (x1 : Vec F S1x4x16x128 .f32) : Vec F S1x1x16x128 .f32 := View.ld x1 (Rect.unit (s := S1x4x16x128) ![0, 2, 0, 0] S1x1x16x128.size inb_S1x4x16x128_S1x1x16x128_0_2_0_0)
abbrev chan3 (x1 : Vec F S1x4x16x128 .f32) : Vec F S1x1x16x128 .f32 := View.ld x1 (Rect.unit (s := S1x4x16x128) ![0, 3, 0, 0] S1x1x16x128.size inb_S1x4x16x128_S1x1x16x128_0_3_0_0)

/-- What the pass over all the boxes of image `b` ends with. -/
def best (x0 : Vec F S4x16x128 .f32) (x2 : Vec F S8x32x5 .f32) (b : Fin 8) : Carry F :=
  pass (plane0 x0) (plane1 x0) (plane2 x0) (plane3 x0) (boxOf x2 b) 32

/-- Which anchors of the block are positive. -/
def hits (x0 : Vec F S4x16x128 .f32) (x2 : Vec F S8x32x5 .f32) (b : Fin 8) : IVec S16x128 1 :=
  k0_pay28 (best x0 x2 b).1 (best x0 x2 b).2.1

/-- The running sum of losses, the block's added. -/
def lossAdd (x0 : Vec F S4x16x128 .f32) (x1 : Vec F S1x4x16x128 .f32) (x2 : Vec F S8x32x5 .f32) (b : Fin 8) (old : F .f32) : F .f32 :=
  k0_pay1 (hits x0 x2 b) (k0_pay32 (plane1 x0) (plane3 x0) (best x0 x2 b).2.2.2.2.1)
    (k0_pay33 k0_pay21 (k0_pay29 (plane0 x0) (plane2 x0) (best x0 x2 b).2.2.2.1) (k0_pay30 (plane1 x0) (plane3 x0) (best x0 x2 b).2.2.1)
      (k0_pay31 (plane0 x0) (plane2 x0) (best x0 x2 b).2.2.2.2.2) (chan0 x1) (chan1 x1) (chan2 x1)) (chan3 x1) old

/-- The running count of positive anchors, the block's added. -/
def countAdd (x0 : Vec F S4x16x128 .f32) (x2 : Vec F S8x32x5 .f32) (b : Fin 8) (old : F .f32) : F .f32 :=
  k0_pay2 (hits x0 x2 b) old

/-- The table of sums after a visit: the image's row advanced, its sums started anew at the image's first block. -/
def table (b : Fin 8) (j : ℕ) (x0 : Vec F S4x16x128 .f32) (x1 : Vec F S1x4x16x128 .f32) (x2 : Vec F S8x32x5 .f32) (x3 : Vec F S8x2 .f32) : Vec F S8x2 .f32 :=
  fun y => if (y 0).val = b.val then
      if (y 1).val = 0 then lossAdd x0 x1 x2 b (if j = 0 then Scalar.ofBits .f32 0x00000000#32 else x3 (ix2 b 0))
      else countAdd x0 x2 b (if j = 0 then Scalar.ofBits .f32 0x00000000#32 else x3 (ix2 b 1))
    else x3 y

/-! ## The words the kernel computes -/

theorem coord0 (i : grid0.Coords) : (BitVec.ofNat 32 (i 0).val).toNat = (i 0).val := by
  have : (i 0).val < 8 := (i 0).isLt
  rw [BitVec.toNat_ofNat, Nat.mod_eq_of_lt (by omega)]

theorem tripWord (k : Fin k0_t1_loop.trips) : (Scf.iv 0#32 1#32 k.val).toNat = k.val :=
  WordArith.toNat_iv_zero_one _ (by have := k.isLt; have := k0_t1_abs.2.1; omega)

theorem off1_eq (i : grid0.Coords) (k : Fin k0_t1_loop.trips) : k0_off1 i k = ![(i 0).val, k.val, 0] := by
  show ![(BitVec.ofNat 32 (i 0).val).toNat, (Scf.iv 0#32 1#32 k.val).toNat, 0] = _; rw [coord0, tripWord]
theorem off2_eq (i : grid0.Coords) (k : Fin k0_t1_loop.trips) : k0_off2 i k = ![(i 0).val, k.val, 1] := by
  show ![(BitVec.ofNat 32 (i 0).val).toNat, (Scf.iv 0#32 1#32 k.val).toNat, 1] = _; rw [coord0, tripWord]
theorem off3_eq (i : grid0.Coords) (k : Fin k0_t1_loop.trips) : k0_off3 i k = ![(i 0).val, k.val, 2] := by
  show ![(BitVec.ofNat 32 (i 0).val).toNat, (Scf.iv 0#32 1#32 k.val).toNat, 2] = _; rw [coord0, tripWord]
theorem off4_eq (i : grid0.Coords) (k : Fin k0_t1_loop.trips) : k0_off4 i k = ![(i 0).val, k.val, 3] := by
  show ![(BitVec.ofNat 32 (i 0).val).toNat, (Scf.iv 0#32 1#32 k.val).toNat, 3] = _; rw [coord0, tripWord]
theorem off5_eq (i : grid0.Coords) : k0_off5 i = ![(i 0).val, 0] := by
  show ![(BitVec.ofNat 32 (i 0).val).toNat, 0] = _; rw [coord0]
theorem off6_eq (i : grid0.Coords) : k0_off6 i = ![(i 0).val, 1] := by
  show ![(BitVec.ofNat 32 (i 0).val).toNat, 1] = _; rw [coord0]
theorem off7_eq (i : grid0.Coords) : k0_off7 i = ![(i 0).val, 0] := by
  show ![(BitVec.ofNat 32 (i 0).val).toNat, 0] = _; rw [coord0]
theorem off8_eq (i : grid0.Coords) : k0_off8 i = ![(i 0).val, 1] := by
  show ![(BitVec.ofNat 32 (i 0).val).toNat, 1] = _; rw [coord0]

theorem cond_iff (i : grid0.Coords) : k0_cond1 i = 1#1 ↔ (i 1).val = 0 := by
  have h : ∀ j : Fin 10, (Scalar.cmpi .ne (Scalar.extui (Scalar.cmpi .eq (BitVec.ofNat 32 j.val) 0#32) : BitVec 32) 0#32 = 1#1) ↔ j.val = 0 := by decide
  exact h (i 1)

/-! ## A box is read -/

theorem box_read {sp : Space} (m : Memref sig .tc sp S8x32x5 .f32) (f : m.view.ty.Contents (Elt F)) (i : grid0.Coords) (k : Fin k0_t1_loop.trips)
    (j : Fin 4) {off : Fin 3 → ℕ} (h : ∀ a, off a + S1x1x1.size a ≤ S8x32x5.size a) (e : off = ![(i 0).val, k.val, j.val])
    (x : (Rect.unit (s := S8x32x5) off S1x1x1.size h).shape.Idx) :
    View.readAt (Elt F) m.view (Rect.unit (s := S8x32x5) off S1x1x1.size h).toLoadRect f x = boxOf (m.view.read (Elt F) f) (i 0) k.val j := by
  subst e
  have hk : k.val < 32 := Nat.lt_of_lt_of_le k.isLt k0_t1_abs.2.1
  have z : ∀ a, (x a).val = 0 := fun a => by
    have := (x a).isLt; have : (x a).val < 1 := by revert this; fin_cases a <;> exact id
    omega
  show m.view.read (Elt F) f _ = m.view.read (Elt F) f _
  congr 1
  funext a
  apply Fin.ext
  show (![(i 0).val, k.val, j.val] : Fin 3 → ℕ) a + 1 * (x a).val = _
  rw [z]
  fin_cases a
  · rfl
  · exact (Nat.mod_eq_of_lt hk).symm
  · rfl

abbrev Held (c : Dev nD) (arg4 : Memref sig .tc .smem S8x32x5 .f32) (X : BufTy.Contents (Elt F) arg4.view.ty) : sProp 𝕄 :=
  iprop((arg4.view.loc (c : Thread nD τ) ↦[arg4.view.set]{fullShare} X))

theorem trip_run (𝒱 : Variants) (c : Dev nD) (bd : Option 𝒱.V) (i : grid0.Coords) (arg2 : Memref sig .tc .vmem S4x16x128 .f32) (harg2 : arg2.IsWhole) (arg3 : Memref sig .tc .vmem S1x4x16x128 .f32) (harg3 : arg3.IsWhole) (arg4 : Memref sig .tc .smem S8x32x5 .f32) (harg4 : arg4.IsWhole) (arg5 : Memref sig .tc .smem S8x2 .f32) (harg5 : arg5.IsWhole) (arg0 : BitVec 32) (v0 v2 v4 v6 : Vec F S1x16x128 .f32) (X : BufTy.Contents (Elt F) arg4.view.ty) (k : Fin k0_t1_loop.trips) (E : Set ℕ) (acc : Carry F) :
    Held (F := F) c arg4 X
      ⊢ wp frame (wpE (defs₀ (F := F)) 𝒱 (c : Thread nD τ) bd) E (k0_t1_body (F := F) i arg2 harg2 arg3 harg3 arg4 harg4 arg5 harg5 arg0 v0 v2 v4 v6 k acc)
          (fun yld => iprop(⌜yld = trip v0 v2 v4 v6 (boxOf (arg4.view.read (Elt F) X) (i 0) k.val) acc⌝ ∗ Held (F := F) c arg4 X)) := by
  have hk : k.val < 32 := Nat.lt_of_lt_of_le k.isLt k0_t1_abs.2.1
  unfold k0_t1_body
  iintro HR_arg4
  sl_exec
  sl_step
  isplitr
  · ipureintro
    unfold trip
    rw [← box_read arg4 X i k 0 (k0_off1_inb i k) (off1_eq i k) (Shape.Idx.first (by decide : 0 < S1x1x1.numel)), ← box_read arg4 X i k 1 (k0_off2_inb i k) (off2_eq i k) (Shape.Idx.first (by decide : 0 < S1x1x1.numel)),
      ← box_read arg4 X i k 2 (k0_off3_inb i k) (off3_eq i k) (Shape.Idx.first (by decide : 0 < S1x1x1.numel)), ← box_read arg4 X i k 3 (k0_off4_inb i k) (off4_eq i k) (Shape.Idx.first (by decide : 0 < S1x1x1.numel))]
    rfl
  iexact HR_arg4

set_option warn.classDefReducibility false in
/-- The pass over the boxes: before box `k` the carried value is `pass … k`. -/
@[sl_loop] def passInv (𝒱 : Variants) (c : Dev nD) (bd : Option 𝒱.V) (E : Set ℕ) (i : grid0.Coords) (arg2 : Memref sig .tc .vmem S4x16x128 .f32) (harg2 : arg2.IsWhole) (arg3 : Memref sig .tc .vmem S1x4x16x128 .f32) (harg3 : arg3.IsWhole) (arg4 : Memref sig .tc .smem S8x32x5 .f32) (harg4 : arg4.IsWhole) (arg5 : Memref sig .tc .smem S8x2 .f32) (harg5 : arg5.IsWhole) (arg0 : BitVec 32) (v0 v2 v4 v6 : Vec F S1x16x128 .f32) (X : BufTy.Contents (Elt F) arg4.view.ty) :
    Idealize.ShloMosaic.LoopInv (M := 𝕄) Idealize.ShloMosaic.frame (wpE defs₀ 𝒱 (c : Thread nD τ) bd) E
      k0_t1_loop.lb k0_t1_loop.ub k0_t1_loop.st k0_t1_ok ((k0_pay22, k0_pay23, k0_pay21, k0_pay21, k0_pay21, k0_pay21) : Carry F)
      (k0_t1_body (F := F) i arg2 harg2 arg3 harg3 arg4 harg4 arg5 harg5 arg0 v0 v2 v4 v6) where
  inv k acc := iprop((arg4.view.loc (c : Thread nD τ) ↦[arg4.view.set]{fullShare} X)
    ∗ ⌜acc = pass v0 v2 v4 v6 (boxOf (arg4.view.read (Elt F) X) (i 0)) k⌝)
  step k acc := by
    iintro ⟨H, %h⟩
    subst h
    iapply (wp_wand_r Idealize.ShloMosaic.frame (wpE (defs₀ (F := F)) 𝒱 (c : Thread nD τ) bd) E)
    isplitl [H]
    · iapply (trip_run (F := F) 𝒱 c bd i arg2 harg2 arg3 harg3 arg4 harg4 arg5 harg5 arg0 v0 v2 v4 v6 X k E _)
      iexact H
    · iintro %yld ⟨%hr, H⟩
      isplitl [H]; · iexact H
      ipureintro; rw [hr]; rfl

/-! ## The two cells of an image -/

theorem cell_read {sp : Space} (m : Memref sig .tc sp S8x2 .f32) (f : m.view.ty.Contents (Elt F)) (b : Fin 8) (j : Fin 2) {off : Fin 2 → ℕ}
    (h : ∀ a, off a + S1x1.size a ≤ S8x2.size a) (e : off = ![b.val, j.val]) (x : (Rect.unit (s := S8x2) off S1x1.size h).shape.Idx) :
    View.readAt (Elt F) m.view (Rect.unit (s := S8x2) off S1x1.size h).toLoadRect f x = m.view.read (Elt F) f (ix2 b j) := by
  subst e
  have z : ∀ a, (x a).val = 0 := fun a => by
    have := (x a).isLt; have : (x a).val < 1 := by revert this; fin_cases a <;> exact id
    omega
  show m.view.read (Elt F) f _ = m.view.read (Elt F) f _
  congr 1
  funext a
  apply Fin.ext
  show (![b.val, j.val] : Fin 2 → ℕ) a + 1 * (x a).val = _
  rw [z]
  fin_cases a <;> rfl

theorem cells_read {sp : Space} (m : Memref sig .tc sp S8x2 .f32) (f : m.view.ty.Contents (Elt F)) (L : List (View.Piece (Elt F) S8x2 .f32)) (b : Fin 8)
    {o0 o1 : Fin 2 → ℕ} (h0 : ∀ a, o0 a + S1x1.size a ≤ S8x2.size a) (h1 : ∀ a, o1 a + S1x1.size a ≤ S8x2.size a)
    (e0 : o0 = ![b.val, 0]) (e1 : o1 = ![b.val, 1]) (A C : F .f32) (y : S8x2.Idx) :
    m.view.read (Elt F) (m.view.writes (Elt F) f ((⟨Rect.unit (s := S8x2) o1 S1x1.size h1, fun _ => C⟩ : View.Piece (Elt F) S8x2 .f32)
        :: (⟨Rect.unit (s := S8x2) o0 S1x1.size h0, fun _ => A⟩ : View.Piece (Elt F) S8x2 .f32) :: L)) y
      = if (y 0).val = b.val then if (y 1).val = 0 then A else C else m.view.read (Elt F) (m.view.writes (Elt F) f L) y := by
  have l1 : (y 1).val < 2 := (y 1).isLt
  by_cases hb : (y 0).val = b.val
  · rw [if_pos hb]
    by_cases hj : (y 1).val = 0
    · rw [if_pos hj, View.read_writes_cons_unit_of_not_mem m.view f h1 _ _ y e1 1 (Or.inl (by rw [hj]; exact Nat.one_pos)),
        View.read_writes_cons_unit_of_mem m.view f h0 _ _ y (Shape.Idx.first (by decide : 0 < S1x1.numel)) e0 (by
          intro a; fin_cases a
          · exact hb
          · exact hj)]
    · rw [if_neg hj, View.read_writes_cons_unit_of_mem m.view f h1 _ _ y (Shape.Idx.first (by decide : 0 < S1x1.numel)) e1 (by
          intro a; fin_cases a
          · exact hb
          · show (y 1).val = 1 + 0
            omega)]
  · rw [if_neg hb, View.read_writes_cons_unit_of_not_mem m.view f h1 _ _ y e1 0 (by
        show (y 0).val < b.val ∨ b.val + 1 ≤ (y 0).val
        omega),
      View.read_writes_cons_unit_of_not_mem m.view f h0 _ _ y e0 0 (by
        show (y 0).val < b.val ∨ b.val + 1 ≤ (y 0).val
        omega)]

theorem table_apply (b : Fin 8) (j : ℕ) (x0 : Vec F S4x16x128 .f32) (x1 : Vec F S1x4x16x128 .f32) (x2 : Vec F S8x32x5 .f32) (x3 : Vec F S8x2 .f32) (A C : F .f32)
    (hA : A = if j = 0 then Scalar.ofBits .f32 0x00000000#32 else x3 (ix2 b 0)) (hC : C = if j = 0 then Scalar.ofBits .f32 0x00000000#32 else x3 (ix2 b 1)) (y : S8x2.Idx) :
    table b j x0 x1 x2 x3 y = if (y 0).val = b.val then if (y 1).val = 0 then lossAdd x0 x1 x2 b A else countAdd x0 x2 b C else x3 y := by
  subst hA hC; rfl

set_option maxHeartbeats 1000000 in
theorem body_run (c : Dev nD) (i : grid0.Coords) (arg2 : Memref sig .tc .vmem S4x16x128 .f32) (harg2 : arg2.IsWhole) (arg3 : Memref sig .tc .vmem S1x4x16x128 .f32) (harg3 : arg3.IsWhole) (arg4 : Memref sig .tc .smem S8x32x5 .f32) (harg4 : arg4.IsWhole) (arg5 : Memref sig .tc .smem S8x2 .f32) (harg5 : arg5.IsWhole)
    (x0 : Vec F S4x16x128 .f32) (x1 : Vec F S1x4x16x128 .f32) (x2 : Vec F S8x32x5 .f32) (x3 : Vec F S8x2 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (iprop(owns (c : Thread nD τ) arg2 fullShare x0 ∗ owns (c : Thread nD τ) arg3 fullShare x1 ∗ owns (c : Thread nD τ) arg4 fullShare x2 ∗ owns (c : Thread nD τ) arg5 fullShare (table (i 0) (i 1).val x0 x1 x2 x3)) -∗ K ⟨⟩))
          ⊢ wp frame (wpE (defs₀ (F := F)) Variants.none c none) E (cc0__main_body i arg2 harg2 arg3 harg3 arg4 harg4 arg5 harg5) K := by
    intro E K
    simp only [cc0__main_body_eq_skeleton]; unfold cc0__main_body_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, Hk⟩
    obtain rfl := hf0; obtain rfl := hf1; obtain rfl := hf2; obtain rfl := hf3
    by_cases hz : k0_cond1 i = 1#1
    · have hj := (cond_iff i).mp hz
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      iexists _; isplitr; swap; · iexact H3
      ipureintro
      have z0 : body_run.sl.r_8 (F := F) c i arg5 hz = Scalar.ofBits .f32 0x00000000#32 := by
        refine (cell_read arg5 _ (i 0) 0 (k0_off7_inb i) (off7_eq i) _).trans ?_
        refine (cells_read arg5 _ [] (i 0) (k0_off5_inb i hz) (k0_off6_inb i hz) (off5_eq i) (off6_eq i) _ _ _).trans ((if_pos rfl).trans ?_)
        exact if_pos rfl
      have z1 : body_run.sl.r_9 (F := F) c i arg2 arg3 arg4 arg5 f0 f1 f2 hz = Scalar.ofBits .f32 0x00000000#32 := by
        refine (cell_read arg5 _ (i 0) 1 (k0_off8_inb i) (off8_eq i) _).trans ?_
        refine (View.read_writes_cons_unit_of_not_mem arg5.view _ (k0_off7_inb i) _ _ (ix2 (i 0) 1) (off7_eq i) 1 (Or.inr (show (![(i 0).val, 0] : Fin 2 → ℕ) 1 + 1 ≤ 1 from Nat.le_refl 1))).trans ?_
        refine (cells_read arg5 _ [] (i 0) (k0_off5_inb i hz) (k0_off6_inb i hz) (off5_eq i) (off6_eq i) _ _ _).trans ((if_pos rfl).trans ?_)
        exact if_neg Nat.one_ne_zero
      funext y
      rw [table_apply (i 0) (i 1).val _ _ _ _ _ _ (z0.trans (if_pos hj).symm) (z1.trans (if_pos hj).symm) y]
      refine (cells_read arg5 f3 _ (i 0) (k0_off7_inb i) (k0_off8_inb i) (off7_eq i) (off8_eq i) _ _ y).trans ?_
      by_cases hy : (y 0).val = (i 0).val
      · rw [if_pos hy, if_pos hy]; rfl
      · rw [if_neg hy, if_neg hy]
        refine (cells_read arg5 f3 [] (i 0) (k0_off5_inb i hz) (k0_off6_inb i hz) (off5_eq i) (off6_eq i) _ _ y).trans ?_
        rw [if_neg hy]; rfl
    · have hj : ¬ (i 1).val = 0 := fun h => hz ((cond_iff i).mpr h)
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      iexists _; isplitr; swap; · iexact H3
      ipureintro
      have z0 := cell_read arg5 f3 (i 0) 0 (k0_off7_inb i) (off7_eq i) (Shape.Idx.first (by decide : 0 < S1x1.numel))
      have z1 := cell_read arg5 f3 (i 0) 1 (k0_off8_inb i) (off8_eq i) (Shape.Idx.first (by decide : 0 < S1x1.numel))
      funext y
      rw [table_apply (i 0) (i 1).val _ _ _ _ _ _ (z0.trans (if_neg hj).symm) (z1.trans (if_neg hj).symm) y]
      refine (cells_read arg5 f3 [] (i 0) (k0_off7_inb i) (k0_off8_inb i) (off7_eq i) (off8_eq i) _ _ y).trans ?_
      by_cases hy : (y 0).val = (i 0).val
      · rw [if_pos hy, if_pos hy]; rfl
      · rw [if_neg hy, if_neg hy]; rfl

end Cert.KernelIdeal.Body
end
-- ==== Proof.KernelIdealCombine.lean ====
module

public import proofs.«01_k».proof.Proof.KernelIdealBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The last step: the table of sums becomes one number -/

/-- The result, read off the table of sums: every image's sum over four times its count, added up and scaled. -/
def combine (x : Vec F S8x2 .f32) : F .f32 :=
  k1_pay1
    (k1_pay4 (k1_pay2 (x (ix2 0 0)) (x (ix2 0 1)) (x (ix2 1 0)) (x (ix2 1 1)) (x (ix2 2 0)) (x (ix2 2 1))) (x (ix2 3 0))
      (Scalar.cmpf .ogt (x (ix2 3 1)) (Scalar.ofBits .f32 0x00000000#32)) (k1_pay3 (x (ix2 3 1))) (Scalar.ofBits .f32 0x40800000#32)
      (x (ix2 4 0)) (x (ix2 4 1)) (x (ix2 5 0)) (x (ix2 5 1)) (x (ix2 6 0)) (x (ix2 6 1)))
    (x (ix2 7 0)) (x (ix2 7 1)) (Scalar.ofBits .f32 0x00000000#32)

theorem combine_run (c : Dev nD) (arg0 : Memref sig .tc .smem S8x2 .f32) (harg0 : arg0.IsWhole) (arg1 : Memref sig .tc .smem S1x1 .f32) (harg1 : arg1.IsWhole)
    (x0 : Vec F S8x2 .f32) (x1 : Vec F S1x1 .f32) :
      ∀ (E : Set ℕ) (K : PUnit → sProp 𝕄),
        iprop(owns (c : Thread nD τ) arg0 fullShare x0 ∗ owns (c : Thread nD τ) arg1 fullShare x1
            ∗ (iprop(owns (c : Thread nD τ) arg0 fullShare x0 ∗ owns (c : Thread nD τ) arg1 fullShare (fun _ : S1x1.Idx => combine x0)) -∗ K ⟨⟩))
          ⊢ wp frame (wpE (defs₀ (F := F)) Variants.none c none) E (cc1__combine_body arg0 harg0 arg1 harg1) K := by
    intro E K
    simp only [cc1__combine_body_eq_skeleton]; unfold cc1__combine_body_skel
    simp only [k1_part1_eq_skeleton, k1_part2_eq_skeleton]
    unfold owns
    iintro ⟨⟨%f0, %hf0, H0⟩, ⟨%f1, %hf1, H1⟩, Hk⟩
    obtain rfl := hf0; obtain rfl := hf1
    sl_exec
    sl_step
    iapply Hk
    isplitl [H0]
    · iexists f0; isplitr; · ipureintro; rfl
      iexact H0
    iexists _; isplitr; swap; · iexact H1
    ipureintro
    have r := fun (b : Fin 8) (j : Fin 2) (h : ∀ a, (![b.val, j.val] : Fin 2 → ℕ) a + S1x1.size a ≤ S8x2.size a) =>
      cell_read arg0 f0 b j h rfl (Shape.Idx.first (by decide : 0 < S1x1.numel))
    funext y
    refine (View.read_writes_cons_unit_of_mem arg1.view f1 inb_S1x1_S1x1_0_0 _ _ y (Shape.Idx.first (by decide : 0 < S1x1.numel)) rfl (by
      intro a
      have := (y a).isLt
      fin_cases a
      · show (y 0).val = 0 + 0
        have : (y 0).val < 1 := (y 0).isLt
        omega
      · show (y 1).val = 0 + 0
        have : (y 1).val < 1 := (y 1).isLt
        omega)).trans ?_
    unfold combine
    rw [← r 0 0 inb_S8x2_S1x1_0_0, ← r 0 1 inb_S8x2_S1x1_0_1, ← r 1 0 inb_S8x2_S1x1_1_0, ← r 1 1 inb_S8x2_S1x1_1_1,
      ← r 2 0 inb_S8x2_S1x1_2_0, ← r 2 1 inb_S8x2_S1x1_2_1, ← r 3 0 inb_S8x2_S1x1_3_0, ← r 3 1 inb_S8x2_S1x1_3_1,
      ← r 4 0 inb_S8x2_S1x1_4_0, ← r 4 1 inb_S8x2_S1x1_4_1, ← r 5 0 inb_S8x2_S1x1_5_0, ← r 5 1 inb_S8x2_S1x1_5_1,
      ← r 6 0 inb_S8x2_S1x1_6_0, ← r 6 1 inb_S8x2_S1x1_6_1, ← r 7 0 inb_S8x2_S1x1_7_0, ← r 7 1 inb_S8x2_S1x1_7_1]
    rfl

end Cert.KernelIdeal.Body
end
-- ==== Proof.KernelIdealTable.lean ====
module

public import proofs.«01_k».proof.Proof.KernelIdealCombine
public import proofs.«01_k».proof.Proof.Gen.KernelIdeal.Regions

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI

variable {F : FTy → Type} [FloatOps F]
variable (m : (ℓ : Loc nD τ sig) → Buf (Elt F) ℓ)

/-! ## The table of sums along the grid -/

/-- What window `w` shows at grid point `t`: its block of the array the region finds. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The anchors, the regressions and the boxes seen at grid point `t`. -/
abbrev anchorsAt (c : Dev nD) (t : Fin cfg0.N) : Vec F S4x16x128 .f32 := iblk m c 0 t
abbrev regressAt (c : Dev nD) (t : Fin cfg0.N) : Vec F S1x4x16x128 .f32 := iblk m c 1 t
abbrev boxesAt (c : Dev nD) (t : Fin cfg0.N) : Vec F S8x32x5 .f32 := iblk m c 2 t

/-- The table after the first `n` grid points, from contents `d`. -/
def tab (c : Dev nD) (d : Vec F S8x2 .f32) : ℕ → Vec F S8x2 .f32
  | 0 => d
  | n + 1 => if h : n < cfg0.N then
      table (grid0.coords ⟨n, h⟩ 0) (grid0.coords ⟨n, h⟩ 1).val (anchorsAt m c ⟨n, h⟩) (regressAt m c ⟨n, h⟩) (boxesAt m c ⟨n, h⟩) (tab c d n)
    else tab c d n

/-- Grid point number `j` of image `b`. -/
def pointOf (b : Fin 8) (j : ℕ) : Fin cfg0.N := ⟨(10 * b.val + j % 10), by rw [show cfg0.N = 80 from N_0]; have := b.isLt; have := Nat.mod_lt j (by decide : 0 < 10); omega⟩

/-- The sum of losses, and the count of positive anchors, over the first `n` blocks of image `b`. -/
def lossSum (c : Dev nD) (b : Fin 8) : ℕ → F .f32
  | 0 => Scalar.ofBits .f32 0x00000000#32
  | n + 1 => lossAdd (anchorsAt m c (pointOf b n)) (regressAt m c (pointOf b n)) (boxesAt m c (pointOf b n)) b (lossSum c b n)
def countSum (c : Dev nD) (b : Fin 8) : ℕ → F .f32
  | 0 => Scalar.ofBits .f32 0x00000000#32
  | n + 1 => countAdd (anchorsAt m c (pointOf b n)) (boxesAt m c (pointOf b n)) b (countSum c b n)

/-- An entry of the table once `n` blocks of its image are in. -/
def entry (c : Dev nD) (n : ℕ) (y : S8x2.Idx) : F .f32 :=
  if (y 1).val = 0 then lossSum m c (y 0) n else countSum m c (y 0) n

/-- The whole table at the end. -/
def final (c : Dev nD) : Vec F S8x2 .f32 := entry m c 10

theorem coords_of : ∀ t : Fin grid0.N, (grid0.coords t 0).val = t.val / 10 ∧ (grid0.coords t 1).val = t.val % 10 := by decide +kernel

/-- After `n` points an image passed has its sums, and the image under way its sums so far. -/
theorem tab_entry (c : Dev nD) (d : Vec F S8x2 .f32) : ∀ n, n ≤ cfg0.N → ∀ y : S8x2.Idx,
    ((y 0).val < n / 10 → tab m c d n y = entry m c 10 y) ∧ ((y 0).val = n / 10 → n % 10 ≠ 0 → tab m c d n y = entry m c (n % 10) y)
  | 0, _, y => ⟨fun h => absurd h (Nat.not_lt_zero _), fun _ h => absurd rfl h⟩
  | n + 1, hn, y => by
    have ih := tab_entry c d n (Nat.le_of_succ_le hn)
    have h : n < cfg0.N := hn
    obtain ⟨c0, c1⟩ := coords_of ⟨n, h⟩
    have hstep : (y 0).val = n / 10 → tab m c d (n + 1) y = entry m c (n % 10 + 1) y := by
      intro hy
      have e0 : grid0.coords ⟨n, h⟩ 0 = y 0 := Fin.ext (c0.trans hy.symm)
      have ep : pointOf (y 0) (n % 10) = ⟨n, h⟩ := Fin.ext (by show 10 * (y 0).val + n % 10 % 10 = n; omega)
      have old : ∀ j : Fin 2, (if n % 10 = 0 then Scalar.ofBits .f32 0x00000000#32 else tab m c d n (ix2 (y 0) j)) = entry m c (n % 10) (ix2 (y 0) j) := by
        intro j
        by_cases hz : n % 10 = 0
        · rw [if_pos hz, hz]
          unfold entry; split <;> rfl
        · rw [if_neg hz]; exact (ih (ix2 (y 0) j)).2 hy hz
      unfold tab
      rw [dif_pos h]
      unfold table
      rw [if_pos (by rw [e0]), e0, show (grid0.coords ⟨n, h⟩ 1).val = n % 10 from c1, old 0, old 1]
      unfold entry
      by_cases hj : (y 1).val = 0
      · rw [if_pos hj, if_pos hj]
        show _ = lossAdd (anchorsAt m c (pointOf (y 0) (n % 10))) (regressAt m c (pointOf (y 0) (n % 10))) (boxesAt m c (pointOf (y 0) (n % 10))) (y 0) (lossSum m c (y 0) (n % 10))
        rw [ep]; rfl
      · rw [if_neg hj, if_neg hj]
        show _ = countAdd (anchorsAt m c (pointOf (y 0) (n % 10))) (boxesAt m c (pointOf (y 0) (n % 10))) (y 0) (countSum m c (y 0) (n % 10))
        rw [ep]; rfl
    have hkeep : (y 0).val ≠ n / 10 → tab m c d (n + 1) y = tab m c d n y := by
      intro hy
      rw [tab, dif_pos h]
      unfold table
      rw [if_neg (by rw [c0]; exact hy)]
    refine ⟨fun hy => ?_, fun hy hz => ?_⟩
    · by_cases hb : (y 0).val = n / 10
      · rw [hstep hb, show n % 10 + 1 = 10 by omega]
      · rw [hkeep hb]; exact (ih y).1 (by omega)
    · rw [hstep (by omega)]
      congr 1
      omega

theorem tab_final (c : Dev nD) (d : Vec F S8x2 .f32) : tab m c d 80 = final m c := by
  funext y
  have : (y 0).val < 8 := (y 0).isLt
  exact (tab_entry m c d 80 (by rw [show cfg0.N = 80 from N_0]) y).1 (by omega)

end Cert.KernelIdeal.Body
end
-- ==== Proof.KernelIdealRun.lean ====
module

public import proofs.«01_k».proof.Proof.KernelIdealTable
public import Idealize.ShloMosaic.Lib.Pipeline.DatRel
public import Idealize.ShloMosaic.Lib.Pipeline.ArrRel
public import Idealize.ShloMosaic.Lib.Pipeline.RegionsLoop

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave -/

/-- The result: the table of sums combined. -/
def result (c : Dev nD) : F .f32 := combine (final m c)

/-- The first region leaves the table of sums, the second the result. -/
def outs : Outs (F := F) := fun n r c =>
  if n = 2 then Function.update (fun r : Ref sig .tc => m ((c : Thread nD τ).loc r)) main_v9 (final m c) r
  else Function.update (fun r : Ref sig .tc => m ((c : Thread nD τ).loc r)) main_v10 (fun _ => result m c) r

theorem outs_table (c : Dev nD) : outs m 2 main_v9 c = final m c := by
  unfold outs; rw [if_pos rfl, Function.update_self]
theorem outs_result (c : Dev nD) : outs m 3 main_v10 c = fun _ => result m c := by
  unfold outs; rw [if_neg (by decide), Function.update_self]

theorem V2_table (c : Dev nD) : V2 m (outs m) c main_v9 = final m c := by
  unfold V2; rw [Function.update_self]; exact outs_table m c
theorem V3_result (c : Dev nD) : V3 m (outs m) c main_v10 = fun _ => result m c := by
  unfold V3; rw [Function.update_self]; exact outs_result m c

/-! ## The proof data of the two regions -/

def dat0 (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.scopedRest spec0 c
  q _ := fullShare
  owed _ := 0

def dat1 (c : Dev nD) : Dat τ (Elt F) Unit ℕ (UR sig nD τ) ℕ cfg1 c where
  A w := V2 m (outs m) c (Pipeline.arrRef spec1 w)
  after w _ := match w with
    | ⟨0, _⟩ => final m c
    | ⟨1, _⟩ => fun _ => result m c
  Φ _ := Pipeline.scopedRest spec1 c
  q _ := fullShare
  owed _ := 0

/-- The window of the first region that is known by a relation only: the table of sums. -/
def marked0 : Fin cfg0.W → Bool := fun w => w.val == 3

/-- What is known of it: the table after the points so far, from some contents. -/
def Rl0 (c : Dev nD) : (w : Fin cfg0.W) → Fin cfg0.N → ((cfg0.win w).block.Idx → Elt F (cfg0.win w).elt) → Prop
  | ⟨3, _⟩, t, X => ∃ d, X = tab m c d (t.val + 1)
  | _, _, _ => True

theorem A0_eq (c : Dev nD) (w : Fin cfg0.W) : (dat0 m c).A w = V1 m c (Pipeline.arrRef spec0 w) := by dsimp only [dat0]
theorem A1_eq (c : Dev nD) (w : Fin cfg1.W) : (dat1 m c).A w = V2 m (outs m) c (Pipeline.arrRef spec1 w) := by dsimp only [dat1]

theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]

theorem before0_0 (c : Dev nD) (t : Fin cfg0.N) (d) : (dat0 m c).before 0 t d = iblk m c 0 t :=
  ((dat0 m c).before_in_eq_fetched 0 rfl (fun _ => rfl) (fun _ _ _ => rfl) (fun t => by rw [after0_0]; unfold Dat.blockOf iblk; rw [A0_eq]; try rfl) t d).trans
    (by unfold Dat.fetched Dat.blockOf iblk; rw [A0_eq]; try rfl)
theorem before0_1 (c : Dev nD) (t : Fin cfg0.N) (d) : (dat0 m c).before 1 t d = iblk m c 1 t :=
  ((dat0 m c).before_in_eq_fetched 1 rfl (fun _ => rfl) (fun _ _ _ => rfl) (fun t => by rw [after0_1]; unfold Dat.blockOf iblk; rw [A0_eq]; try rfl) t d).trans
    (by unfold Dat.fetched Dat.blockOf iblk; rw [A0_eq]; try rfl)
theorem before0_2 (c : Dev nD) (t : Fin cfg0.N) (d) : (dat0 m c).before 2 t d = iblk m c 2 t :=
  ((dat0 m c).before_in_eq_fetched 2 rfl (fun _ => rfl) (fun _ _ _ => rfl) (fun t => by rw [after0_2]; unfold Dat.blockOf iblk; rw [A0_eq]; try rfl) t d).trans
    (by unfold Dat.fetched Dat.blockOf iblk; rw [A0_eq]; try rfl)

/-- The table is never fetched. -/
theorem unfetched0_3 (t : Fin cfg0.N) : (cfg0.win 3).fetch t = false := rfl

/-- What the body may find in the table's buffer. -/
theorem finds0_3 (c : Dev nD) (t : Fin cfg0.N) (Y) (h : ((dat0 m c).toRRel marked0 (Rl0 m c)).Finds 3 t Y) : ∃ d, Y = tab m c d t.val := by
  by_cases ht : t.val = 0
  · exact ⟨Y, by rw [ht]; rfl⟩
  · rcases (RDat.finds_of_pos _ (unfetched0_3 t) ht Y).mp h with hf | hl
    · have := (flush0_3 _).mp hf
      have hN : t.val < 80 := lt_of_lt_of_eq t.isLt N_0
      dsimp only at this
      omega
    · obtain ⟨d, hd⟩ := Dat.toRRel_leaves (dat0 m c) rfl hl
      refine ⟨d, hd.trans ?_⟩
      congr 1
      dsimp only
      omega

/-! ## The bodies at a grid point -/

def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ Y, ⌜((dat0 m c).toRRel marked0 (Rl0 m c)).Finds 3 t Y⌝ ∗ owns (c : Thread nD τ) (st0_3 t) fullShare Y))

def bodyPost0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ (∃ X, ⌜Rl0 m c 3 t X⌝ ∗ owns (c : Thread nD τ) (st0_3 t) fullShare X))

theorem sound0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2]
  rw [show (dat0 m c).Φ t.succ = (dat0 m c).Φ t.castSucc from rfl,
    show (dat0 m c).owesAt () t.succ = (dat0 m c).owesAt () t.castSucc from rfl,
    after0_0, after0_1, after0_2]
  iintro ⟨HΦ, Ho, ⟨%d0, H0⟩, ⟨%d1, H1⟩, ⟨%d2, H2⟩, ⟨%Y, %hY, H3⟩⟩
  obtain ⟨d, hd⟩ := finds0_3 m c t Y hY
  subst hd
  iapply (body_run c (grid0.coords t) _ _ _ _ _ _ _ _ (anchorsAt m c t) (regressAt m c t) (boxesAt m c t) (tab m c d t.val) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexists _
  isplitr; swap; · iexact H3
  ipureintro
  exact ⟨d, by rw [tab, dif_pos t.isLt]⟩

theorem row0 (t : Fin cfg0.N) : defs₀ (F := F) .tc cfg0.body (cfg0.bodyArgs t (cfg0.slots t)) = bodyAt0 t := by
  unfold defs₀; rw [Defs.onTc_tc]
theorem row1 (t : Fin cfg1.N) : defs₀ (F := F) .tc cfg1.body (cfg1.bodyArgs t (cfg1.slots t)) = bodyAt1 t := by
  obtain rfl := fin_N1 t
  unfold defs₀; rw [Defs.onTc_tc]

theorem obligation0 (c : Dev nD) : BodyObligationRel (dat0 m c) (defs₀ (F := F)) Variants.none () Set.univ marked0 (Rl0 m c) := fun t => by
  rw [bigSep_W0, bigSep_W0, row0]
  exact triple_restated (sound0 m c t) rfl .rfl fun _ => .rfl

/-- The second region finds the table of sums in its operand. -/
theorem before1_0 (c : Dev nD) (t : Fin cfg1.N) (d) : (dat1 m c).before 0 t d = final m c := by
  obtain rfl := fin_N1 t
  unfold Dat.before; rw [if_pos (fetch1_0 _)]
  unfold Dat.fetched Dat.blockOf
  rw [A1_eq]
  have e : V2 m (outs m) c (Pipeline.arrRef spec1 0) = final m c := (V2_table m c)
  rw [e]
  funext x
  show final m c _ = final m c x
  congr 1
  funext a
  apply Fin.ext
  show 0 * _ + 1 * (x a).val = (x a).val
  omega

def bodyPre1 (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d)))

def bodyPost1 (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t))

theorem sound1 (c : Dev nD) (t : Fin cfg1.N) :
    bodyPre1 m c t ⊢ wp frame (wpE (defs₀ (F := F)) Variants.none c none) Set.univ (bodyAt1 t) (fun _ => bodyPost1 m c t) := by
  unfold bodyPre1 bodyPost1 bodyAt1
  simp only [before1_0]
  rw [show (dat1 m c).Φ t.succ = (dat1 m c).Φ t.castSucc from rfl,
    show (dat1 m c).owesAt () t.succ = (dat1 m c).owesAt () t.castSucc from rfl]
  iintro ⟨HΦ, Ho, ⟨%d0, H0⟩, ⟨%d1, H1⟩⟩
  iapply (combine_run c _ _ _ _ (final m c) ((dat1 m c).before 1 t d1) Set.univ _)
  isplitl [H0]; · iexact H0
  isplitl [H1]; · iexact H1
  iintro ⟨H0, H1⟩
  isplitl [HΦ]; · iexact HΦ
  isplitl [Ho]; · iexact Ho
  isplitl [H0]; · iexact H0
  iexact H1

theorem obligation1 (c : Dev nD) : Pipeline.BodyObligation (dat1 m c) (defs₀ (F := F)) Variants.none () Set.univ := fun t => by
  rw [bigSep_W1, bigSep_W1, row1]
  exact triple_restated (sound1 m c t) rfl .rfl fun _ => .rfl

end Cert.KernelIdeal.Body
end
-- ==== Proof.KernelIdealLaunch.lean ====
module

public import proofs.«01_k».proof.Proof.KernelIdealRun

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's parameters -/

def pdats : (p : Fin 2) → (c : Dev nD) → Dat τ (Elt F) Unit ℕ (UR sig nD τ) ℕ (cfgs p) c
  | ⟨0, _⟩, c => dat0 m c
  | ⟨1, _⟩, c => dat1 m c

def rdats : (p : Fin 2) → (c : Dev nD) → RDat τ (Elt F) Unit ℕ (UR sig nD τ) ℕ (cfgs p) c
  | ⟨0, _⟩, c => (dat0 m c).toRRel marked0 (Rl0 m c)
  | ⟨1, _⟩, c => (dat1 m c).toR

/-- No core waits for another. -/
abbrev L : GSem nD τ sig → Finset Unit := fun _ => ∅
abbrev lv : GSem nD τ sig → Unit → ℕ := fun _ _ => 0

/-- Beside the buffers each core carries that it owes nothing. -/
abbrev R (c : Dev nD) : sProp 𝕄 := iprop(∃ W, owes (c : Thread nD τ) (0 : CellTallies nD τ sig Unit) W)

/-- Every unscoped buffer of a core, at contents `V`. -/
abbrev held (c : Dev nD) (V : Valuation τ sig (Elt F)) : sProp 𝕄 := StableHlo.held (c : Thread nD τ) (Pipeline.ucRefs τ sig) V

/-! ## What the first region leaves in its arrays -/

theorem whole0_3 : (cfg0.win 3).WholeAt (⟨79, by rw [show cfg0.N = 80 from N_0]; decide⟩ : Fin cfg0.N) := by
  decide +kernel

theorem left0 (c : Dev nD) (w : Fin cfg0.W) (G : Buf (Elt F) ((cfg0.win w).arr.view.loc (c.tc : Thread nD τ)))
    (h : ((dat0 m c).toRRel marked0 (Rl0 m c)).ArrAt w cfg0.N G) : G = V2 m (outs m) c (Pipeline.arrRef spec0 w) := by
  have hin : ∀ w, marked0 w = false → (cfg0.win w).isOut = false → Pipeline.arrRef spec0 w ∉ ([main_v9] : List (Ref sig .tc)) →
      ∀ G, ((dat0 m c).toRRel marked0 (Rl0 m c)).ArrAt w cfg0.N G → G = V2 m (outs m) c (Pipeline.arrRef spec0 w) := by
    intro w hm ho hr G h
    rw [V2_of m (outs m) c _ hr, ← A0_eq]
    exact (((dat0 m c).toR_arrAt_iff w _ G).mp (((dat0 m c).toR.override_arrAt (by simp only [hm]) _ G).mp h)).trans ((dat0 m c).arrAt_in w ho _)
  match w, G, h with
  | ⟨0, _⟩, G, h => exact hin 0 rfl rfl (by decide) G h
  | ⟨1, _⟩, G, h => exact hin 1 rfl rfl (by decide) G h
  | ⟨2, _⟩, G, h => exact hin 2 rfl rfl (by decide) G h
  | ⟨3, _⟩, G, h =>
    obtain ⟨X, hX, hG⟩ := RDat.ArrAt.emb_eq_of_wholeAt h whole0_3
    obtain ⟨d, hd⟩ := Dat.toRRel_leaves (dat0 m c) rfl hX
    rw [show V2 m (outs m) c (Pipeline.arrRef spec0 3) = final m c from V2_table m c]
    funext j
    refine (hG j).trans ?_
    rw [hd]
    exact congrFun (tab_final m c d) j

theorem arraysAt0 (c : Dev nD) :
    (((dat0 m c).toRRel marked0 (Rl0 m c)).arraysAt cfg0.N : sProp 𝕄) ⊢ (dat0 m c).arrays (fun w => V2 m (outs m) c (Pipeline.arrRef spec0 w)) := by
  unfold RDat.arraysAt Dat.arrays
  refine BI.bigSep_mono fun w _ => ?_
  show iprop(∃ G, ⌜((dat0 m c).toRRel marked0 (Rl0 m c)).ArrAt w cfg0.N G⌝ ∗ (cfg0.win w).arr.view.loc (c.tc : Thread nD τ) ↦[(cfg0.win w).arr.view.set]{(dat0 m c).share w} G)
    ⊢ ((cfg0.win w).arr.view.loc (c.tc : Thread nD τ) ↦[(cfg0.win w).arr.view.set]{(dat0 m c).share w} (V2 m (outs m) c (Pipeline.arrRef spec0 w)) : sProp 𝕄)
  iintro ⟨%G, %hG, H⟩
  rw [← left0 m c w G hG]
  iexact H

/-! ## What the second region leaves -/

theorem whole1_1 : (cfg1.win 1).WholeAt (⟨0, by decide⟩ : Fin cfg1.N) := by
  decide +kernel

theorem left1 (c : Dev nD) (w : Fin cfg1.W) : (dat1 m c).arrAt w cfg1.N = V3 m (outs m) c (Pipeline.arrRef spec1 w) := by
  match w with
  | ⟨0, _⟩ =>
    rw [show V3 m (outs m) c (Pipeline.arrRef spec1 0) = V2 m (outs m) c (Pipeline.arrRef spec1 0) from V3_of m (outs m) c main_v9 (by decide)]
    exact ((dat1 m c).arrAt_in 0 rfl _).trans (A1_eq m c 0)
  | ⟨1, _⟩ =>
    rw [show V3 m (outs m) c (Pipeline.arrRef spec1 1) = (fun _ => result m c) from V3_result m c]
    funext j
    exact Dat.arrAt_emb_eq_after_last (dat1 m c) 1 _ whole1_1 j

theorem arraysAt1 (c : Dev nD) :
    (((dat1 m c).toR).arraysAt cfg1.N : sProp 𝕄) ⊢ (dat1 m c).arrays (fun w => V3 m (outs m) c (Pipeline.arrRef spec1 w)) := by
  rw [Dat.toR_arraysAt_eq, show ((dat1 m c).arrAt · cfg1.N) = (fun w => V3 m (outs m) c (Pipeline.arrRef spec1 w)) from funext (left1 m c)]

/-! ## The segments -/

theorem prefHeld_none (p : Fin 2) (c : Dev nD) : (BI.emp : sProp 𝕄) ⊢ Pipeline.prefHeld (pcfgs (F := F) p).pre c (fun _ => fullShare) (adm p).1 := by
  match p with
  | ⟨0, _⟩ => unfold Pipeline.prefHeld; rw [show (Finset.univ : Finset (Fin 0)) = ∅ from rfl, BI.bigSep_empty]
  | ⟨1, _⟩ => unfold Pipeline.prefHeld; rw [show (Finset.univ : Finset (Fin 0)) = ∅ from rfl, BI.bigSep_empty]

set_option backward.isDefEq.respectTransparency.types false in
def reg0 : RDat.RegionSeg (pcfgs (F := F)) adm (rdats m) () defs₀ Variants.none L lv 0 where
  win := launch0.win.to₀
  block_pos := launch0.block_pos
  stage_whole := launch0.stage_whole
  K := PEmpty
  osem := fun k => k.elim
  ho := Pipeline.OwnSemFacts.none _
  hbody c := (obligation0 m c).toRRel
  hwaits := RDat.hwaits_of_owed_zero _ _ _ _ L lv 0 fun _ _ => rfl
  pre c := iprop(held c (V1 m c) ∗ R c)
  post c := iprop(held c (V2 m (outs m) c) ∗ R c)
  X _ := iprop(emp)
  Y _ := iprop(emp)
  Z c := Pipeline.unscopedRest spec0 c (fun b => V1 m c b)
  hentry c := by
    rw [Pipeline.ownSems0_none, show held c (V1 m c) = unscopedBufs c (fun b => V1 m c b) from (Pipeline.unscopedBufs_held c _).symm]
    have hsplit := RDat.arrays_of_unscopedBufs (pcfgs (F := F)) adm (rdats m) (p := 0) launch0.win launch0.arr_whole c
      ((dat0 m c).share_full fun _ => rfl) (fun b => V1 m c b) (A0_eq m c)
    iintro ⟨⟨Hub, HO⟩, -, -⟩
    ihave H := hsplit $$ Hub
    icases H with ⟨Ha, Hr⟩
    imodintro
    isplitl [Ha]; · iexact Ha
    isplitr; · iapply (prefHeld_none 0 c); iempintro
    isplitl [HO]
    · unfold RDat.owesAt Pipeline.owesWithin
      icases HO with ⟨%W, HO⟩; iexists W; isplitr; · ipureintro; exact fun _ _ => Or.inl trivial
      iexact HO
    isplitr; · iempintro
    iexact Hr
  hin c := by
    rw [show (rdats m 0 c).Φ 0 = Pipeline.scopedRest spec0 c from rfl]
    iintro ⟨-, -, Hr⟩
    iexact Hr
  hout c := by
    rw [Pipeline.ownSems0_none]
    show (Pipeline.scopedRest spec0 c : sProp 𝕄) ⊢ iprop(BI.emp ∗ BI.emp ∗ Pipeline.scopedRest spec0 c)
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((dat0 m c).share_full fun _ => rfl)
      (fun b => V1 m c b) (fun b => V2 m (outs m) c b) (fun w => V2 m (outs m) c (Pipeline.arrRef spec0 w)) (fun _ => rfl)
      (fun b hb => V2_of m (outs m) c b fun hm => hb (by
        rw [List.mem_singleton] at hm; subst hm
        exact Finset.mem_image.mpr ⟨3, Finset.mem_univ _, rfl⟩))
    rw [show held c (V2 m (outs m) c) = unscopedBufs c (fun b => V2 m (outs m) c b) from (Pipeline.unscopedBufs_held c _).symm]
    iintro ⟨Ha, HO, -, Hr⟩
    imodintro
    isplitl [Ha Hr]
    · iapply hjoin
      isplitl [Ha]
      · iapply (arraysAt0 m c); iexact Ha
      iexact Hr
    unfold RDat.owesAt Pipeline.owesWithin
    icases HO with ⟨%W, -, HO⟩; iexists W; iexact HO

set_option backward.isDefEq.respectTransparency.types false in
def reg1 : RDat.RegionSeg (pcfgs (F := F)) adm (rdats m) () defs₀ Variants.none L lv 1 where
  win := launch1.win.to₀
  block_pos := launch1.block_pos
  stage_whole := launch1.stage_whole
  K := PEmpty
  osem := fun k => k.elim
  ho := Pipeline.OwnSemFacts.none _
  hbody c := ((obligation1 m c).loose).toR
  hwaits := RDat.hwaits_of_owed_zero _ _ _ _ L lv 1 fun _ _ => rfl
  pre c := iprop(held c (V2 m (outs m) c) ∗ R c)
  post c := iprop(held c (V3 m (outs m) c) ∗ R c)
  X _ := iprop(emp)
  Y _ := iprop(emp)
  Z c := Pipeline.unscopedRest spec1 c (fun b => V2 m (outs m) c b)
  hentry c := by
    rw [Pipeline.ownSems0_none, show held c (V2 m (outs m) c) = unscopedBufs c (fun b => V2 m (outs m) c b) from (Pipeline.unscopedBufs_held c _).symm]
    have hsplit := RDat.arrays_of_unscopedBufs (pcfgs (F := F)) adm (rdats m) (p := 1) launch1.win launch1.arr_whole c
      ((dat1 m c).share_full fun _ => rfl) (fun b => V2 m (outs m) c b) (A1_eq m c)
    iintro ⟨⟨Hub, HO⟩, -, -⟩
    ihave H := hsplit $$ Hub
    icases H with ⟨Ha, Hr⟩
    imodintro
    isplitl [Ha]; · iexact Ha
    isplitr; · iapply (prefHeld_none 1 c); iempintro
    isplitl [HO]
    · unfold RDat.owesAt Pipeline.owesWithin
      icases HO with ⟨%W, HO⟩; iexists W; isplitr; · ipureintro; exact fun _ _ => Or.inl trivial
      iexact HO
    isplitr; · iempintro
    iexact Hr
  hin c := by
    rw [show (rdats m 1 c).Φ 0 = Pipeline.scopedRest spec1 c from rfl]
    iintro ⟨-, -, Hr⟩
    iexact Hr
  hout c := by
    rw [Pipeline.ownSems0_none]
    show (Pipeline.scopedRest spec1 c : sProp 𝕄) ⊢ iprop(BI.emp ∗ BI.emp ∗ Pipeline.scopedRest spec1 c)
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((dat1 m c).share_full fun _ => rfl)
      (fun b => V2 m (outs m) c b) (fun b => V3 m (outs m) c b) (fun w => V3 m (outs m) c (Pipeline.arrRef spec1 w)) (fun _ => rfl)
      (fun b hb => V3_of m (outs m) c b fun hm => hb (by
        rw [List.mem_singleton] at hm; subst hm
        exact Finset.mem_image.mpr ⟨1, Finset.mem_univ _, rfl⟩))
    rw [show held c (V3 m (outs m) c) = unscopedBufs c (fun b => V3 m (outs m) c b) from (Pipeline.unscopedBufs_held c _).symm]
    iintro ⟨Ha, HO, -, Hr⟩
    imodintro
    isplitl [Ha Hr]
    · iapply hjoin
      isplitl [Ha]
      · iapply (arraysAt1 m c); iexact Ha
      iexact Hr
    unfold RDat.owesAt Pipeline.owesWithin
    icases HO with ⟨%W, -, HO⟩; iexists W; iexact HO

/-! ## The run -/

/-- @main on a core: a stretch of host operations, the two regions, a stretch of host operations. -/
abbrev parts (_ : Dev nD) : List (RDat.Seg (pcfgs (F := F)) adm (rdats m) () defs₀ Variants.none L lv) :=
  [.host (seg0 m Variants.none L lv fun _ => R), .region (reg0 m), .region (reg1 m), .host (seg3 m (outs m) Variants.none L lv fun _ => R)]

theorem mem_held (r : Ref sig .tc) (h : (Proc.devRef (τ := τ) .tc r).isScoped = false) : Proc.devRef .tc r ∈ Pipeline.ucRefs τ sig :=
  Finset.mem_filter.mpr ⟨StableHlo.devRef_mem_tcRefs r, by rw [h]; decide⟩

set_option backward.isDefEq.respectTransparency.types false in
/-- Every weakly fair execution from memory `m` with zero counters terminates; in every final state the arguments are as
    launched, the last buffer holds what the last host operation makes of the result, and every counter is zero. -/
theorem run : θ_run defs (onTc (τ := τ) (main (F := F))) ⟨m, fun _ => 0, ρ⟩ (fun r => (∀ c : Dev nD,
      r.2.mem ((c.tc : Thread nD τ).loc main_v11) = V4 m (outs m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.RDat.θ_run_regions_kit_dev_sems (pcfgs (F := F)) adm (rdats m) () cellOf_inj emb₁ defs₀ Variants.none L lv m ρ main
    (parts m)
    (fun c Q => by
      rewrite [main_chain c, RDat.Seg.run_eq_chain,
        show (parts m c).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [parts, RDat.Seg.pipes_host, RDat.Seg.pipes_region, RDat.Seg.pipes_nil]; decide) (O₀ := 0) (hL := fun _ _ => rfl)
    (G := fun _ => iprop(emp)) (u₀ := initOf (Pipeline.cells cfgs cellOf_inj) (Pipeline.launchToks cfgs cellOf_inj))
    (hu₀ := ?_)
    (T₀ := fun c => iprop(held c (V0 m c) ∗ R c))
    (Tₙ := fun c => held c (V4 m (outs m) c))
    (hch := fun c => ⟨.rfl, .rfl, .rfl, .rfl, .rfl⟩)
    (hinit := ?_)
    (QY := fun c s => s.mem ((c.tc : Thread nD τ).loc main_v11) = V4 m (outs m) c main_v11
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = held c (V0 m c) from Pipeline.unscopedBufs_held c (V0 m c)]
    iintro ⟨⟨Hh, -, HO, -, -, -⟩, -⟩
    imodintro
    isplitl [Hh]; · iexact Hh
    iexists ∅; iexact HO
  · unfold held StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨h (Proc.devRef .tc main_v11) (mem_held main_v11 rfl),
        (h (Proc.devRef .tc main_arg0) (mem_held main_arg0 rfl)).trans (V4_main_arg0 m (outs m) c),
        (h (Proc.devRef .tc main_arg1) (mem_held main_arg1 rfl)).trans (V4_main_arg1 m (outs m) c),
        (h (Proc.devRef .tc main_arg2) (mem_held main_arg2 rfl)).trans (V4_main_arg2 m (outs m) c)⟩
    iexact HSI

/-- What the last host operation makes of the result: the one number, as an array of one. -/
theorem V4_value (c : Dev nD) : V4 m (outs m) c main_v11 = fun _ => result m c := by
  unfold V4
  rw [StableHlo.after_cons, StableHlo.after_nil, StableHlo.reshape_result, V3_result]
  rfl

end Cert.KernelIdeal.Body
end
-- ==== Proof.ReferenceIdealLine.lean ====
module

public import proofs.«01_k».proof.Proof.Gen.ReferenceIdeal
public import Idealize.ShloMosaic.Lib.StableHlo.Run

/-!
The reference's @main as lists of its operations, in order, cut where one stage of the computation ends: the sizes, the overlaps,
the ratios, the pick, the targets and the losses. A called function's operations stand in its call's place.
-/

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `s` and element type `e`. -/
abbrev Cts (F : FTy → Type) (s : Shape) (e : EltTy) := (⟨s, e⟩ : BufTy).Contents (Elt F)

/-- Operations for the anchors' widths, heights and centres. -/
abbrev sizes : List (HloOp τ sig (Elt F)) :=
  [ reshape main_arg1 main_v0 rfl shapeCasts_S1x20000x4_S20000x4,
    unary main_v0 main_v1 ((extractStridedSlice S20000x1 ![0, 3] · slices_S20000x4_S20000x1_0_3) : Cts F S20000x4 .f32 → Cts F S20000x1 .f32),
    reshape main_v1 main_v2 rfl shapeCasts_S20000x1_S20000,
    unary main_v0 main_v3 ((extractStridedSlice S20000x1 ![0, 1] · slices_S20000x4_S20000x1_0_1) : Cts F S20000x4 .f32 → Cts F S20000x1 .f32),
    reshape main_v3 main_v4 rfl shapeCasts_S20000x1_S20000,
    binary main_v2 main_v4 main_v5 (subf : Cts F S20000 .f32 → Cts F S20000 .f32 → Cts F S20000 .f32),
    unary main_v0 main_v6 ((extractStridedSlice S20000x1 ![0, 2] · slices_S20000x4_S20000x1_0_2) : Cts F S20000x4 .f32 → Cts F S20000x1 .f32),
    reshape main_v6 main_v7 rfl shapeCasts_S20000x1_S20000,
    unary main_v0 main_v8 ((extractStridedSlice S20000x1 ![0, 0] · slices_S20000x4_S20000x1_0_0) : Cts F S20000x4 .f32 → Cts F S20000x1 .f32),
    reshape main_v8 main_v9 rfl shapeCasts_S20000x1_S20000,
    binary main_v7 main_v9 main_v10 (subf : Cts F S20000 .f32 → Cts F S20000 .f32 → Cts F S20000 .f32),
    unary main_v0 main_v11 ((extractStridedSlice S20000x1 ![0, 1] · slices_S20000x4_S20000x1_0_1) : Cts F S20000x4 .f32 → Cts F S20000x1 .f32),
    reshape main_v11 main_v12 rfl shapeCasts_S20000x1_S20000,
    nullary main_cst (constant S_ .f32 0x3F000000#32),
    unary main_cst main_v13 (broadcastInDim S20000 ![] bcast_S_S20000 : Cts F S_ .f32 → Cts F S20000 .f32),
    binary main_v13 main_v5 main_v14 (mulf : Cts F S20000 .f32 → Cts F S20000 .f32 → Cts F S20000 .f32),
    binary main_v12 main_v14 main_v15 (addf : Cts F S20000 .f32 → Cts F S20000 .f32 → Cts F S20000 .f32),
    unary main_v0 main_v16 ((extractStridedSlice S20000x1 ![0, 0] · slices_S20000x4_S20000x1_0_0) : Cts F S20000x4 .f32 → Cts F S20000x1 .f32),
    reshape main_v16 main_v17 rfl shapeCasts_S20000x1_S20000,
    nullary main_cst_0 (constant S_ .f32 0x3F000000#32),
    unary main_cst_0 main_v18 (broadcastInDim S20000 ![] bcast_S_S20000 : Cts F S_ .f32 → Cts F S20000 .f32),
    binary main_v18 main_v10 main_v19 (mulf : Cts F S20000 .f32 → Cts F S20000 .f32 → Cts F S20000 .f32),
    binary main_v17 main_v19 main_v20 (addf : Cts F S20000 .f32 → Cts F S20000 .f32 → Cts F S20000 .f32) ]

/-- Operations for the boxes and their areas. -/
abbrev boxAreas : List (HloOp τ sig (Elt F)) :=
  [ unary main_arg2 main_v21 ((extractStridedSlice S8x32x4 ![0, 0, 0] · slices_S8x32x5_S8x32x4_0_0_0) : Cts F S8x32x5 .f32 → Cts F S8x32x4 .f32),
    unary main_v21 main_v22 ((extractStridedSlice S8x32x1 ![0, 0, 2] · slices_S8x32x4_S8x32x1_0_0_2) : Cts F S8x32x4 .f32 → Cts F S8x32x1 .f32),
    reshape main_v22 main_v23 rfl shapeCasts_S8x32x1_S8x32,
    unary main_v21 main_v24 ((extractStridedSlice S8x32x1 ![0, 0, 0] · slices_S8x32x4_S8x32x1_0_0_0) : Cts F S8x32x4 .f32 → Cts F S8x32x1 .f32),
    reshape main_v24 main_v25 rfl shapeCasts_S8x32x1_S8x32,
    binary main_v23 main_v25 main_v26 (subf : Cts F S8x32 .f32 → Cts F S8x32 .f32 → Cts F S8x32 .f32),
    unary main_v21 main_v27 ((extractStridedSlice S8x32x1 ![0, 0, 3] · slices_S8x32x4_S8x32x1_0_0_3) : Cts F S8x32x4 .f32 → Cts F S8x32x1 .f32),
    reshape main_v27 main_v28 rfl shapeCasts_S8x32x1_S8x32,
    unary main_v21 main_v29 ((extractStridedSlice S8x32x1 ![0, 0, 1] · slices_S8x32x4_S8x32x1_0_0_1) : Cts F S8x32x4 .f32 → Cts F S8x32x1 .f32),
    reshape main_v29 main_v30 rfl shapeCasts_S8x32x1_S8x32,
    binary main_v28 main_v30 main_v31 (subf : Cts F S8x32 .f32 → Cts F S8x32 .f32 → Cts F S8x32 .f32),
    binary main_v26 main_v31 main_v32 (mulf : Cts F S8x32 .f32 → Cts F S8x32 .f32 → Cts F S8x32 .f32) ]

/-- Operations for the overlaps' widths, before clipping. -/
abbrev widths : List (HloOp τ sig (Elt F)) :=
  [ unary main_v0 main_v33 ((extractStridedSlice S20000x1 ![0, 3] · slices_S20000x4_S20000x1_0_3) : Cts F S20000x4 .f32 → Cts F S20000x1 .f32),
    reshape main_v33 main_v34 rfl shapeCasts_S20000x1_S20000,
    unary main_v34 main_v35 (broadcastInDim S20000x1 ![0] bcast_S20000_S20000x1_0 : Cts F S20000 .f32 → Cts F S20000x1 .f32),
    unary main_v21 main_v36 ((extractStridedSlice S8x32x1 ![0, 0, 2] · slices_S8x32x4_S8x32x1_0_0_2) : Cts F S8x32x4 .f32 → Cts F S8x32x1 .f32),
    reshape main_v36 main_v37 rfl shapeCasts_S8x32x1_S8x32,
    unary main_v37 main_v38 (broadcastInDim S8x1x32 ![0, 2] bcast_S8x32_S8x1x32_0_2 : Cts F S8x32 .f32 → Cts F S8x1x32 .f32),
    unary main_v35 main_v39 (broadcastInDim S1x20000x1 ![1, 2] bcast_S20000x1_S1x20000x1_1_2 : Cts F S20000x1 .f32 → Cts F S1x20000x1 .f32),
    unary main_v39 main_v40 (broadcastInDim S8x20000x32 ![0, 1, 2] bcast_S1x20000x1_S8x20000x32_0_1_2 : Cts F S1x20000x1 .f32 → Cts F S8x20000x32 .f32),
    unary main_v38 main_v41 (broadcastInDim S8x20000x32 ![0, 1, 2] bcast_S8x1x32_S8x20000x32_0_1_2 : Cts F S8x1x32 .f32 → Cts F S8x20000x32 .f32),
    binary main_v40 main_v41 main_v42 (minimumf : Cts F S8x20000x32 .f32 → Cts F S8x20000x32 .f32 → Cts F S8x20000x32 .f32),
    unary main_v0 main_v43 ((extractStridedSlice S20000x1 ![0, 1] · slices_S20000x4_S20000x1_0_1) : Cts F S20000x4 .f32 → Cts F S20000x1 .f32),
    reshape main_v43 main_v44 rfl shapeCasts_S20000x1_S20000,
    unary main_v44 main_v45 (broadcastInDim S20000x1 ![0] bcast_S20000_S20000x1_0 : Cts F S20000 .f32 → Cts F S20000x1 .f32),
    unary main_v21 main_v46 ((extractStridedSlice S8x32x1 ![0, 0, 0] · slices_S8x32x4_S8x32x1_0_0_0) : Cts F S8x32x4 .f32 → Cts F S8x32x1 .f32),
    reshape main_v46 main_v47 rfl shapeCasts_S8x32x1_S8x32,
    unary main_v47 main_v48 (broadcastInDim S8x1x32 ![0, 2] bcast_S8x32_S8x1x32_0_2 : Cts F S8x32 .f32 → Cts F S8x1x32 .f32),
    unary main_v45 main_v49 (broadcastInDim S1x20000x1 ![1, 2] bcast_S20000x1_S1x20000x1_1_2 : Cts F S20000x1 .f32 → Cts F S1x20000x1 .f32),
    unary main_v49 main_v50 (broadcastInDim S8x20000x32 ![0, 1, 2] bcast_S1x20000x1_S8x20000x32_0_1_2 : Cts F S1x20000x1 .f32 → Cts F S8x20000x32 .f32),
    unary main_v48 main_v51 (broadcastInDim S8x20000x32 ![0, 1, 2] bcast_S8x1x32_S8x20000x32_0_1_2 : Cts F S8x1x32 .f32 → Cts F S8x20000x32 .f32),
    binary main_v50 main_v51 main_v52 (maximumf : Cts F S8x20000x32 .f32 → Cts F S8x20000x32 .f32 → Cts F S8x20000x32 .f32),
    binary main_v42 main_v52 main_v53 (subf : Cts F S8x20000x32 .f32 → Cts F S8x20000x32 .f32 → Cts F S8x20000x32 .f32) ]

/-- Operations for the right edges of the overlaps' heights. -/
abbrev heights0 : List (HloOp τ sig (Elt F)) :=
  [ unary main_v0 main_v54 ((extractStridedSlice S20000x1 ![0, 2] · slices_S20000x4_S20000x1_0_2) : Cts F S20000x4 .f32 → Cts F S20000x1 .f32),
    reshape main_v54 main_v55 rfl shapeCasts_S20000x1_S20000,
    unary main_v55 main_v56 (broadcastInDim S20000x1 ![0] bcast_S20000_S20000x1_0 : Cts F S20000 .f32 → Cts F S20000x1 .f32),
    unary main_v21 main_v57 ((extractStridedSlice S8x32x1 ![0, 0, 3] · slices_S8x32x4_S8x32x1_0_0_3) : Cts F S8x32x4 .f32 → Cts F S8x32x1 .f32) ]

/-- Operations for the overlaps' heights, before clipping. -/
abbrev heights1 : List (HloOp τ sig (Elt F)) :=
  [ reshape main_v57 main_v58 rfl shapeCasts_S8x32x1_S8x32,
    unary main_v58 main_v59 (broadcastInDim S8x1x32 ![0, 2] bcast_S8x32_S8x1x32_0_2 : Cts F S8x32 .f32 → Cts F S8x1x32 .f32),
    unary main_v56 main_v60 (broadcastInDim S1x20000x1 ![1, 2] bcast_S20000x1_S1x20000x1_1_2 : Cts F S20000x1 .f32 → Cts F S1x20000x1 .f32),
    unary main_v60 main_v61 (broadcastInDim S8x20000x32 ![0, 1, 2] bcast_S1x20000x1_S8x20000x32_0_1_2 : Cts F S1x20000x1 .f32 → Cts F S8x20000x32 .f32),
    unary main_v59 main_v62 (broadcastInDim S8x20000x32 ![0, 1, 2] bcast_S8x1x32_S8x20000x32_0_1_2 : Cts F S8x1x32 .f32 → Cts F S8x20000x32 .f32),
    binary main_v61 main_v62 main_v63 (minimumf : Cts F S8x20000x32 .f32 → Cts F S8x20000x32 .f32 → Cts F S8x20000x32 .f32),
    unary main_v0 main_v64 ((extractStridedSlice S20000x1 ![0, 0] · slices_S20000x4_S20000x1_0_0) : Cts F S20000x4 .f32 → Cts F S20000x1 .f32),
    reshape main_v64 main_v65 rfl shapeCasts_S20000x1_S20000,
    unary main_v65 main_v66 (broadcastInDim S20000x1 ![0] bcast_S20000_S20000x1_0 : Cts F S20000 .f32 → Cts F S20000x1 .f32),
    unary main_v21 main_v67 ((extractStridedSlice S8x32x1 ![0, 0, 1] · slices_S8x32x4_S8x32x1_0_0_1) : Cts F S8x32x4 .f32 → Cts F S8x32x1 .f32),
    reshape main_v67 main_v68 rfl shapeCasts_S8x32x1_S8x32,
    unary main_v68 main_v69 (broadcastInDim S8x1x32 ![0, 2] bcast_S8x32_S8x1x32_0_2 : Cts F S8x32 .f32 → Cts F S8x1x32 .f32),
    unary main_v66 main_v70 (broadcastInDim S1x20000x1 ![1, 2] bcast_S20000x1_S1x20000x1_1_2 : Cts F S20000x1 .f32 → Cts F S1x20000x1 .f32),
    unary main_v70 main_v71 (broadcastInDim S8x20000x32 ![0, 1, 2] bcast_S1x20000x1_S8x20000x32_0_1_2 : Cts F S1x20000x1 .f32 → Cts F S8x20000x32 .f32),
    unary main_v69 main_v72 (broadcastInDim S8x20000x32 ![0, 1, 2] bcast_S8x1x32_S8x20000x32_0_1_2 : Cts F S8x1x32 .f32 → Cts F S8x20000x32 .f32),
    binary main_v71 main_v72 main_v73 (maximumf : Cts F S8x20000x32 .f32 → Cts F S8x20000x32 .f32 → Cts F S8x20000x32 .f32),
    binary main_v63 main_v73 main_v74 (subf : Cts F S8x20000x32 .f32 → Cts F S8x20000x32 .f32 → Cts F S8x20000x32 .f32) ]

/-- Operations for the ratios of overlap to union. -/
abbrev ratios : List (HloOp τ sig (Elt F)) :=
  [ nullary main_cst_1 (constant S_ .f32 0x00000000#32),
    TRef.unary (.of (T := ⟨S_, .f32⟩) main_cst_1) (.of (T := ⟨S_, .f32⟩) main_call0_v0) id,
    TRef.unary (.of (T := ⟨S_, .f32⟩) main_call0_v0) (.of (T := ⟨S8x20000x32, .f32⟩) main_call0_v1) (broadcastInDim S8x20000x32 ![] bcast_S_S8x20000x32),
    TRef.binary (.of (T := ⟨S8x20000x32, .f32⟩) main_call0_v1) (.of (T := ⟨S8x20000x32, .f32⟩) main_v53) (.of (T := ⟨S8x20000x32, .f32⟩) main_v75) maximumf,
    nullary main_cst_2 (constant S_ .f32 0x00000000#32),
    TRef.unary (.of (T := ⟨S_, .f32⟩) main_cst_2) (.of (T := ⟨S_, .f32⟩) main_call1_v0) id,
    TRef.unary (.of (T := ⟨S_, .f32⟩) main_call1_v0) (.of (T := ⟨S8x20000x32, .f32⟩) main_call1_v1) (broadcastInDim S8x20000x32 ![] bcast_S_S8x20000x32),
    TRef.binary (.of (T := ⟨S8x20000x32, .f32⟩) main_call1_v1) (.of (T := ⟨S8x20000x32, .f32⟩) main_v74) (.of (T := ⟨S8x20000x32, .f32⟩) main_v76) maximumf,
    unary main_v0 main_v77 ((extractStridedSlice S20000x1 ![0, 2] · slices_S20000x4_S20000x1_0_2) : Cts F S20000x4 .f32 → Cts F S20000x1 .f32),
    reshape main_v77 main_v78 rfl shapeCasts_S20000x1_S20000,
    unary main_v0 main_v79 ((extractStridedSlice S20000x1 ![0, 0] · slices_S20000x4_S20000x1_0_0) : Cts F S20000x4 .f32 → Cts F S20000x1 .f32),
    reshape main_v79 main_v80 rfl shapeCasts_S20000x1_S20000,
    binary main_v78 main_v80 main_v81 (subf : Cts F S20000 .f32 → Cts F S20000 .f32 → Cts F S20000 .f32),
    unary main_v0 main_v82 ((extractStridedSlice S20000x1 ![0, 3] · slices_S20000x4_S20000x1_0_3) : Cts F S20000x4 .f32 → Cts F S20000x1 .f32),
    reshape main_v82 main_v83 rfl shapeCasts_S20000x1_S20000,
    unary main_v0 main_v84 ((extractStridedSlice S20000x1 ![0, 1] · slices_S20000x4_S20000x1_0_1) : Cts F S20000x4 .f32 → Cts F S20000x1 .f32),
    reshape main_v84 main_v85 rfl shapeCasts_S20000x1_S20000,
    binary main_v83 main_v85 main_v86 (subf : Cts F S20000 .f32 → Cts F S20000 .f32 → Cts F S20000 .f32),
    binary main_v81 main_v86 main_v87 (mulf : Cts F S20000 .f32 → Cts F S20000 .f32 → Cts F S20000 .f32),
    unary main_v87 main_v88 (broadcastInDim S20000x1 ![0] bcast_S20000_S20000x1_0 : Cts F S20000 .f32 → Cts F S20000x1 .f32),
    unary main_v32 main_v89 (broadcastInDim S8x1x32 ![0, 2] bcast_S8x32_S8x1x32_0_2 : Cts F S8x32 .f32 → Cts F S8x1x32 .f32),
    unary main_v88 main_v90 (broadcastInDim S1x20000x1 ![1, 2] bcast_S20000x1_S1x20000x1_1_2 : Cts F S20000x1 .f32 → Cts F S1x20000x1 .f32),
    unary main_v90 main_v91 (broadcastInDim S8x20000x32 ![0, 1, 2] bcast_S1x20000x1_S8x20000x32_0_1_2 : Cts F S1x20000x1 .f32 → Cts F S8x20000x32 .f32),
    unary main_v89 main_v92 (broadcastInDim S8x20000x32 ![0, 1, 2] bcast_S8x1x32_S8x20000x32_0_1_2 : Cts F S8x1x32 .f32 → Cts F S8x20000x32 .f32),
    binary main_v91 main_v92 main_v93 (addf : Cts F S8x20000x32 .f32 → Cts F S8x20000x32 .f32 → Cts F S8x20000x32 .f32),
    binary main_v75 main_v76 main_v94 (mulf : Cts F S8x20000x32 .f32 → Cts F S8x20000x32 .f32 → Cts F S8x20000x32 .f32),
    binary main_v93 main_v94 main_v95 (subf : Cts F S8x20000x32 .f32 → Cts F S8x20000x32 .f32 → Cts F S8x20000x32 .f32),
    nullary main_cst_3 (constant S_ .f32 0x322BCC77#32),
    TRef.unary (.of (T := ⟨S_, .f32⟩) main_cst_3) (.of (T := ⟨S_, .f32⟩) main_call2_v0) id,
    TRef.unary (.of (T := ⟨S_, .f32⟩) main_call2_v0) (.of (T := ⟨S8x20000x32, .f32⟩) main_call2_v1) (broadcastInDim S8x20000x32 ![] bcast_S_S8x20000x32),
    TRef.binary (.of (T := ⟨S8x20000x32, .f32⟩) main_call2_v1) (.of (T := ⟨S8x20000x32, .f32⟩) main_v95) (.of (T := ⟨S8x20000x32, .f32⟩) main_v96) maximumf,
    binary main_v75 main_v76 main_v97 (mulf : Cts F S8x20000x32 .f32 → Cts F S8x20000x32 .f32 → Cts F S8x20000x32 .f32),
    binary main_v97 main_v96 main_v98 (Host.divf : Cts F S8x20000x32 .f32 → Cts F S8x20000x32 .f32 → Cts F S8x20000x32 .f32) ]

/-- Operations for the largest ratio, its first place, and the box picked there. -/
abbrev picks : List (HloOp τ sig (Elt F)) :=
  [ nullary main_cst_4 (constant S_ .f32 0xFF800000#32),
    binary main_v98 main_cst_4 main_v99 ((fun x v => Host.reduce FloatOps.maximumf x v reducesTo_S8x20000x32_S8x20000_d2 h_S_) : Cts F S8x20000x32 .f32 → Cts F S_ .f32 → Cts F S8x20000 .f32),
    TRef.nullary (.of (T := ⟨S8x20000x32, .i32⟩) main_call3_v0) (iotaInDim S8x20000x32 32 2),
    TRef.nullary (.of (T := ⟨S_, .f32⟩) main_call3_cst) (constant S_ .f32 0xFF800000#32),
    TRef.nullary (.of (T := ⟨S_, .i32⟩) main_call3_c) (constantI S_ 32 0#32),
    TRef.quaternary (.of (T := ⟨S8x20000x32, .f32⟩) main_v98) (.of (T := ⟨S8x20000x32, .i32⟩) main_call3_v0) (.of (T := ⟨S_, .f32⟩) main_call3_cst) (.of (T := ⟨S_, .i32⟩) main_call3_c) (.of (T := ⟨S8x20000, .f32⟩) main_call3_v1_0) (fun x y u v j => (Host.argReduce reducer_argmax_f32_i32 x y u v reducesTo_S8x20000x32_S8x20000_d2 h_S_ j).1),
    TRef.quaternary (.of (T := ⟨S8x20000x32, .f32⟩) main_v98) (.of (T := ⟨S8x20000x32, .i32⟩) main_call3_v0) (.of (T := ⟨S_, .f32⟩) main_call3_cst) (.of (T := ⟨S_, .i32⟩) main_call3_c) (.of (T := ⟨S8x20000, .i32⟩) main_v100) (fun x y u v j => (Host.argReduce reducer_argmax_f32_i32 x y u v reducesTo_S8x20000x32_S8x20000_d2 h_S_ j).2),
    nullary main_cst_5 (constant S_ .f32 0x3F000000#32),
    unary main_cst_5 main_v101 (broadcastInDim S8x20000 ![] bcast_S_S8x20000 : Cts F S_ .f32 → Cts F S8x20000 .f32),
    binary main_v99 main_v101 main_v102 (cmpf .oge : Cts F S8x20000 .f32 → Cts F S8x20000 .f32 → Cts F S8x20000 .i1),
    nullary main_c (constantI S_ 32 0#32),
    unary main_c main_v103 (broadcastInDim S8x20000 ![] bcast_S_S8x20000 : Cts F S_ .i32 → Cts F S8x20000 .i32),
    binary main_v100 main_v103 main_v104 (cmpi .slt : Cts F S8x20000 .i32 → Cts F S8x20000 .i32 → Cts F S8x20000 .i1),
    nullary main_c_6 (constantI S_ 32 32#32),
    unary main_c_6 main_v105 (broadcastInDim S8x20000 ![] bcast_S_S8x20000 : Cts F S_ .i32 → Cts F S8x20000 .i32),
    binary main_v100 main_v105 main_v106 (addi : Cts F S8x20000 .i32 → Cts F S8x20000 .i32 → Cts F S8x20000 .i32),
    ternary main_v104 main_v106 main_v100 main_v107 (select : Cts F S8x20000 .i1 → Cts F S8x20000 .i32 → Cts F S8x20000 .i32 → Cts F S8x20000 .i32),
    unary main_v107 main_v108 (broadcastInDim S8x20000x1 ![0, 1] bcast_S8x20000_S8x20000x1_0_1 : Cts F S8x20000 .i32 → Cts F S8x20000x1 .i32),
    binary main_arg2 main_v108 main_v109 ((fun x i => Host.gather gather_S8x32x5_S8x20000x1_S8x20000x5_2_1_0_0_1_2_115 x i) : Cts F S8x32x5 .f32 → Cts F S8x20000x1 .i32 → Cts F S8x20000x5 .f32) ]

/-- Operations for the first column of the picked box. -/
abbrev gt0 : List (HloOp τ sig (Elt F)) :=
  [ unary main_v109 main_v110 ((extractStridedSlice S8x20000x1 ![0, 0, 2] · slices_S8x20000x5_S8x20000x1_0_0_2) : Cts F S8x20000x5 .f32 → Cts F S8x20000x1 .f32) ]

/-- Operations for the picked boxes' sizes and centres. -/
abbrev gt1 : List (HloOp τ sig (Elt F)) :=
  [ reshape main_v110 main_v111 rfl shapeCasts_S8x20000x1_S8x20000,
    unary main_v109 main_v112 ((extractStridedSlice S8x20000x1 ![0, 0, 0] · slices_S8x20000x5_S8x20000x1_0_0_0) : Cts F S8x20000x5 .f32 → Cts F S8x20000x1 .f32),
    reshape main_v112 main_v113 rfl shapeCasts_S8x20000x1_S8x20000,
    binary main_v111 main_v113 main_v114 (subf : Cts F S8x20000 .f32 → Cts F S8x20000 .f32 → Cts F S8x20000 .f32),
    unary main_v109 main_v115 ((extractStridedSlice S8x20000x1 ![0, 0, 3] · slices_S8x20000x5_S8x20000x1_0_0_3) : Cts F S8x20000x5 .f32 → Cts F S8x20000x1 .f32),
    reshape main_v115 main_v116 rfl shapeCasts_S8x20000x1_S8x20000,
    unary main_v109 main_v117 ((extractStridedSlice S8x20000x1 ![0, 0, 1] · slices_S8x20000x5_S8x20000x1_0_0_1) : Cts F S8x20000x5 .f32 → Cts F S8x20000x1 .f32),
    reshape main_v117 main_v118 rfl shapeCasts_S8x20000x1_S8x20000,
    binary main_v116 main_v118 main_v119 (subf : Cts F S8x20000 .f32 → Cts F S8x20000 .f32 → Cts F S8x20000 .f32),
    unary main_v109 main_v120 ((extractStridedSlice S8x20000x1 ![0, 0, 0] · slices_S8x20000x5_S8x20000x1_0_0_0) : Cts F S8x20000x5 .f32 → Cts F S8x20000x1 .f32),
    reshape main_v120 main_v121 rfl shapeCasts_S8x20000x1_S8x20000,
    nullary main_cst_7 (constant S_ .f32 0x3F000000#32),
    unary main_cst_7 main_v122 (broadcastInDim S8x20000 ![] bcast_S_S8x20000 : Cts F S_ .f32 → Cts F S8x20000 .f32),
    binary main_v122 main_v114 main_v123 (mulf : Cts F S8x20000 .f32 → Cts F S8x20000 .f32 → Cts F S8x20000 .f32),
    binary main_v121 main_v123 main_v124 (addf : Cts F S8x20000 .f32 → Cts F S8x20000 .f32 → Cts F S8x20000 .f32),
    unary main_v109 main_v125 ((extractStridedSlice S8x20000x1 ![0, 0, 1] · slices_S8x20000x5_S8x20000x1_0_0_1) : Cts F S8x20000x5 .f32 → Cts F S8x20000x1 .f32),
    reshape main_v125 main_v126 rfl shapeCasts_S8x20000x1_S8x20000,
    nullary main_cst_8 (constant S_ .f32 0x3F000000#32),
    unary main_cst_8 main_v127 (broadcastInDim S8x20000 ![] bcast_S_S8x20000 : Cts F S_ .f32 → Cts F S8x20000 .f32),
    binary main_v127 main_v119 main_v128 (mulf : Cts F S8x20000 .f32 → Cts F S8x20000 .f32 → Cts F S8x20000 .f32),
    binary main_v126 main_v128 main_v129 (addf : Cts F S8x20000 .f32 → Cts F S8x20000 .f32 → Cts F S8x20000 .f32),
    nullary main_cst_9 (constant S_ .f32 0x3F800000#32),
    TRef.unary (.of (T := ⟨S_, .f32⟩) main_cst_9) (.of (T := ⟨S_, .f32⟩) main_call4_v0) id,
    TRef.unary (.of (T := ⟨S_, .f32⟩) main_call4_v0) (.of (T := ⟨S8x20000, .f32⟩) main_call4_v1) (broadcastInDim S8x20000 ![] bcast_S_S8x20000),
    TRef.binary (.of (T := ⟨S8x20000, .f32⟩) main_call4_v1) (.of (T := ⟨S8x20000, .f32⟩) main_v114) (.of (T := ⟨S8x20000, .f32⟩) main_v130) maximumf,
    nullary main_cst_10 (constant S_ .f32 0x3F800000#32),
    TRef.unary (.of (T := ⟨S_, .f32⟩) main_cst_10) (.of (T := ⟨S_, .f32⟩) main_call5_v0) id,
    TRef.unary (.of (T := ⟨S_, .f32⟩) main_call5_v0) (.of (T := ⟨S8x20000, .f32⟩) main_call5_v1) (broadcastInDim S8x20000 ![] bcast_S_S8x20000),
    TRef.binary (.of (T := ⟨S8x20000, .f32⟩) main_call5_v1) (.of (T := ⟨S8x20000, .f32⟩) main_v119) (.of (T := ⟨S8x20000, .f32⟩) main_v131) maximumf ]

/-- Operations for the four regression targets. -/
abbrev targets : List (HloOp τ sig (Elt F)) :=
  [ unary main_v15 main_v132 (broadcastInDim S1x20000 ![1] bcast_S20000_S1x20000_1 : Cts F S20000 .f32 → Cts F S1x20000 .f32),
    unary main_v132 main_v133 (broadcastInDim S8x20000 ![0, 1] bcast_S1x20000_S8x20000_0_1 : Cts F S1x20000 .f32 → Cts F S8x20000 .f32),
    binary main_v124 main_v133 main_v134 (subf : Cts F S8x20000 .f32 → Cts F S8x20000 .f32 → Cts F S8x20000 .f32),
    unary main_v5 main_v135 (broadcastInDim S1x20000 ![1] bcast_S20000_S1x20000_1 : Cts F S20000 .f32 → Cts F S1x20000 .f32),
    unary main_v135 main_v136 (broadcastInDim S8x20000 ![0, 1] bcast_S1x20000_S8x20000_0_1 : Cts F S1x20000 .f32 → Cts F S8x20000 .f32),
    binary main_v134 main_v136 main_v137 (Host.divf : Cts F S8x20000 .f32 → Cts F S8x20000 .f32 → Cts F S8x20000 .f32),
    unary main_v20 main_v138 (broadcastInDim S1x20000 ![1] bcast_S20000_S1x20000_1 : Cts F S20000 .f32 → Cts F S1x20000 .f32),
    unary main_v138 main_v139 (broadcastInDim S8x20000 ![0, 1] bcast_S1x20000_S8x20000_0_1 : Cts F S1x20000 .f32 → Cts F S8x20000 .f32),
    binary main_v129 main_v139 main_v140 (subf : Cts F S8x20000 .f32 → Cts F S8x20000 .f32 → Cts F S8x20000 .f32),
    unary main_v10 main_v141 (broadcastInDim S1x20000 ![1] bcast_S20000_S1x20000_1 : Cts F S20000 .f32 → Cts F S1x20000 .f32),
    unary main_v141 main_v142 (broadcastInDim S8x20000 ![0, 1] bcast_S1x20000_S8x20000_0_1 : Cts F S1x20000 .f32 → Cts F S8x20000 .f32),
    binary main_v140 main_v142 main_v143 (Host.divf : Cts F S8x20000 .f32 → Cts F S8x20000 .f32 → Cts F S8x20000 .f32),
    unary main_v5 main_v144 (broadcastInDim S1x20000 ![1] bcast_S20000_S1x20000_1 : Cts F S20000 .f32 → Cts F S1x20000 .f32),
    unary main_v144 main_v145 (broadcastInDim S8x20000 ![0, 1] bcast_S1x20000_S8x20000_0_1 : Cts F S1x20000 .f32 → Cts F S8x20000 .f32),
    binary main_v130 main_v145 main_v146 (Host.divf : Cts F S8x20000 .f32 → Cts F S8x20000 .f32 → Cts F S8x20000 .f32),
    unary main_v146 main_v147 (Host.log : Cts F S8x20000 .f32 → Cts F S8x20000 .f32),
    unary main_v10 main_v148 (broadcastInDim S1x20000 ![1] bcast_S20000_S1x20000_1 : Cts F S20000 .f32 → Cts F S1x20000 .f32),
    unary main_v148 main_v149 (broadcastInDim S8x20000 ![0, 1] bcast_S1x20000_S8x20000_0_1 : Cts F S1x20000 .f32 → Cts F S8x20000 .f32),
    binary main_v131 main_v149 main_v150 (Host.divf : Cts F S8x20000 .f32 → Cts F S8x20000 .f32 → Cts F S8x20000 .f32),
    unary main_v150 main_v151 (Host.log : Cts F S8x20000 .f32 → Cts F S8x20000 .f32),
    unary main_v143 main_v152 (broadcastInDim S8x20000x1 ![0, 1] bcast_S8x20000_S8x20000x1_0_1 : Cts F S8x20000 .f32 → Cts F S8x20000x1 .f32),
    unary main_v137 main_v153 (broadcastInDim S8x20000x1 ![0, 1] bcast_S8x20000_S8x20000x1_0_1 : Cts F S8x20000 .f32 → Cts F S8x20000x1 .f32),
    unary main_v151 main_v154 (broadcastInDim S8x20000x1 ![0, 1] bcast_S8x20000_S8x20000x1_0_1 : Cts F S8x20000 .f32 → Cts F S8x20000x1 .f32),
    unary main_v147 main_v155 (broadcastInDim S8x20000x1 ![0, 1] bcast_S8x20000_S8x20000x1_0_1 : Cts F S8x20000 .f32 → Cts F S8x20000x1 .f32) ]

/-- The operation that lays the four targets side by side. -/
abbrev stack : List (HloOp τ sig (Elt F)) :=
  [ nary ![main_v152, main_v153, main_v154, main_v155] main_v156 (fun u => (concatenate S8x20000x4 2 [⟨S8x20000x1, (u 0 : (⟨S8x20000x1, .f32⟩ : BufTy).Contents (Elt F))⟩, ⟨S8x20000x1, (u 1 : (⟨S8x20000x1, .f32⟩ : BufTy).Contents (Elt F))⟩, ⟨S8x20000x1, (u 2 : (⟨S8x20000x1, .f32⟩ : BufTy).Contents (Elt F))⟩, ⟨S8x20000x1, (u 3 : (⟨S8x20000x1, .f32⟩ : BufTy).Contents (Elt F))⟩] concatenates_S8x20000x1_S8x20000x1_S8x20000x1_S8x20000x1_S8x20000x4_d2 : (⟨S8x20000x4, .f32⟩ : BufTy).Contents (Elt F))) ]

/-- Operations for the distances and their squares. -/
abbrev diffs : List (HloOp τ sig (Elt F)) :=
  [ binary main_v156 main_arg0 main_v157 (subf : Cts F S8x20000x4 .f32 → Cts F S8x20000x4 .f32 → Cts F S8x20000x4 .f32),
    unary main_v157 main_v158 (Host.absf : Cts F S8x20000x4 .f32 → Cts F S8x20000x4 .f32),
    nullary main_cst_11 (constant S_ .f32 0x3DE38E39#32),
    unary main_cst_11 main_v159 (broadcastInDim S8x20000x4 ![] bcast_S_S8x20000x4 : Cts F S_ .f32 → Cts F S8x20000x4 .f32),
    binary main_v158 main_v159 main_v160 (cmpf .ole : Cts F S8x20000x4 .f32 → Cts F S8x20000x4 .f32 → Cts F S8x20000x4 .i1),
    binary main_v158 main_v158 main_v161 (mulf : Cts F S8x20000x4 .f32 → Cts F S8x20000x4 .f32 → Cts F S8x20000x4 .f32),
    nullary main_cst_12 (constant S_ .f32 0x40900000#32),
    unary main_cst_12 main_v162 (broadcastInDim S8x20000x4 ![] bcast_S_S8x20000x4 : Cts F S_ .f32 → Cts F S8x20000x4 .f32),
    binary main_v162 main_v161 main_v163 (mulf : Cts F S8x20000x4 .f32 → Cts F S8x20000x4 .f32 → Cts F S8x20000x4 .f32),
    nullary main_cst_13 (constant S_ .f32 0x3D638E39#32) ]

/-- Operations for the masked losses. -/
abbrev losses : List (HloOp τ sig (Elt F)) :=
  [ unary main_cst_13 main_v164 (broadcastInDim S8x20000x4 ![] bcast_S_S8x20000x4 : Cts F S_ .f32 → Cts F S8x20000x4 .f32),
    binary main_v158 main_v164 main_v165 (subf : Cts F S8x20000x4 .f32 → Cts F S8x20000x4 .f32 → Cts F S8x20000x4 .f32),
    TRef.ternary (.of (T := ⟨S8x20000x4, .i1⟩) main_v160) (.of (T := ⟨S8x20000x4, .f32⟩) main_v163) (.of (T := ⟨S8x20000x4, .f32⟩) main_v165) (.of (T := ⟨S8x20000x4, .f32⟩) main_v166) select,
    unary main_v102 main_v167 (broadcastInDim S8x20000x1 ![0, 1] bcast_S8x20000_S8x20000x1_0_1 : Cts F S8x20000 .i1 → Cts F S8x20000x1 .i1),
    nullary main_cst_14 (constant S_ .f32 0x00000000#32),
    TRef.unary (.of (T := ⟨S_, .f32⟩) main_cst_14) (.of (T := ⟨S_, .f32⟩) main_call7_v0) id,
    TRef.unary (.of (T := ⟨S8x20000x1, .i1⟩) main_v167) (.of (T := ⟨S8x20000x4, .i1⟩) main_call7_v1) (broadcastInDim S8x20000x4 ![0, 1, 2] bcast_S8x20000x1_S8x20000x4_0_1_2),
    TRef.unary (.of (T := ⟨S_, .f32⟩) main_call7_v0) (.of (T := ⟨S20000x4, .f32⟩) main_call7_v2) (broadcastInDim S20000x4 ![] bcast_S_S20000x4),
    TRef.unary (.of (T := ⟨S20000x4, .f32⟩) main_call7_v2) (.of (T := ⟨S8x20000x4, .f32⟩) main_call7_v3) (broadcastInDim S8x20000x4 ![1, 2] bcast_S20000x4_S8x20000x4_1_2),
    TRef.ternary (.of (T := ⟨S8x20000x4, .i1⟩) main_call7_v1) (.of (T := ⟨S8x20000x4, .f32⟩) main_v166) (.of (T := ⟨S8x20000x4, .f32⟩) main_call7_v3) (.of (T := ⟨S8x20000x4, .f32⟩) main_v168) select ]

/-- Operations for the mean per image and over the images. -/
abbrev means : List (HloOp τ sig (Elt F)) :=
  [ unary main_v102 main_v169 ((extui 32 · natLt_1_32) : Cts F S8x20000 .i1 → Cts F S8x20000 .i32),
    nullary main_c_15 (constantI S_ 32 0#32),
    binary main_v169 main_c_15 main_v170 ((fun x v => Host.reduce IntOp.addi x v reducesTo_S8x20000_S8_d1 h_S_) : Cts F S8x20000 .i32 → Cts F S_ .i32 → Cts F S8 .i32),
    nullary main_c_16 (constantI S_ 32 0#32),
    unary main_c_16 main_v171 (broadcastInDim S8 ![] bcast_S_S8 : Cts F S_ .i32 → Cts F S8 .i32),
    binary main_v170 main_v171 main_v172 (cmpi .sgt : Cts F S8 .i32 → Cts F S8 .i32 → Cts F S8 .i1),
    nullary main_cst_17 (constant S_ .f32 0x00000000#32),
    binary main_v168 main_cst_17 main_v173 ((fun x v => Host.reduceAdd x v reducesTo_S8x20000x4_S8_d1_2 h_S_) : Cts F S8x20000x4 .f32 → Cts F S_ .f32 → Cts F S8 .f32),
    nullary main_c_18 (constantI S_ 32 1#32),
    unary main_c_18 main_v174 (broadcastInDim S8 ![] bcast_S_S8 : Cts F S_ .i32 → Cts F S8 .i32),
    binary main_v170 main_v174 main_v175 (maxsi : Cts F S8 .i32 → Cts F S8 .i32 → Cts F S8 .i32),
    unary main_v175 main_v176 (sitofp .f32 : Cts F S8 .i32 → Cts F S8 .f32),
    nullary main_cst_19 (constant S_ .f32 0x40800000#32),
    unary main_cst_19 main_v177 (broadcastInDim S8 ![] bcast_S_S8 : Cts F S_ .f32 → Cts F S8 .f32),
    binary main_v177 main_v176 main_v178 (mulf : Cts F S8 .f32 → Cts F S8 .f32 → Cts F S8 .f32),
    binary main_v173 main_v178 main_v179 (Host.divf : Cts F S8 .f32 → Cts F S8 .f32 → Cts F S8 .f32),
    nullary main_cst_20 (constant S_ .f32 0x00000000#32),
    TRef.unary (.of (T := ⟨S_, .f32⟩) main_cst_20) (.of (T := ⟨S8, .f32⟩) main_call8_v0) (broadcastInDim S8 ![] bcast_S_S8),
    TRef.ternary (.of (T := ⟨S8, .i1⟩) main_v172) (.of (T := ⟨S8, .f32⟩) main_v179) (.of (T := ⟨S8, .f32⟩) main_call8_v0) (.of (T := ⟨S8, .f32⟩) main_v180) select,
    nullary main_cst_21 (constant S_ .f32 0x00000000#32),
    binary main_v180 main_cst_21 main_v181 ((fun x v => Host.reduceAdd x v reducesTo_S8_S_d0 h_S_) : Cts F S8 .f32 → Cts F S_ .f32 → Cts F S_ .f32),
    unary main_v181 main_v182 (broadcastInDim S1 ![] bcast_S_S1 : Cts F S_ .f32 → Cts F S1 .f32),
    nullary main_cst_22 (constant S_ .f32 0x41000000#32),
    unary main_cst_22 main_v183 (broadcastInDim S1 ![] bcast_S_S1 : Cts F S_ .f32 → Cts F S1 .f32),
    binary main_v182 main_v183 main_v184 (Host.divf : Cts F S1 .f32 → Cts F S1 .f32 → Cts F S1 .f32),
    nullary main_cst_23 (constant S_ .f32 0x42480000#32),
    unary main_cst_23 main_v185 (broadcastInDim S1 ![] bcast_S_S1 : Cts F S_ .f32 → Cts F S1 .f32),
    binary main_v184 main_v185 main_v186 (mulf : Cts F S1 .f32 → Cts F S1 .f32 → Cts F S1 .f32) ]

set_option maxRecDepth 8192 in
set_option maxHeartbeats 4000000 in
theorem part0_eq (c : Dev nD) : main_part0 (F := F) c = seq (sizes ++ boxAreas ++ widths ++ heights0) := rfl
set_option maxRecDepth 8192 in
set_option maxHeartbeats 4000000 in
theorem part1_eq (c : Dev nD) : main_part1 (F := F) c = seq (heights1 ++ ratios ++ picks ++ gt0) := rfl
set_option maxRecDepth 8192 in
set_option maxHeartbeats 4000000 in
theorem part2_eq (c : Dev nD) : main_part2 (F := F) c = seq (gt1 ++ targets ++ stack ++ diffs) := rfl
set_option maxRecDepth 8192 in
set_option maxHeartbeats 4000000 in
theorem part3_eq (c : Dev nD) : main_part3 (F := F) c = seq (losses ++ means) := rfl

end Cert.ReferenceIdeal.Line

end
-- ==== Proof.ReferenceIdealRun.lean ====
module

public import proofs.«01_k».proof.Proof.ReferenceIdealLine
public import Idealize.ShloMosaic.Lib.StableHlo.RunRead
public import Idealize.ShloMosaic.Lib.Quiescent
public import Idealize.ShloMosaic.Lib.Pipeline.Frame

/-!
The reference's run: the host executes its list of operations, so every buffer of a device ends up holding what that list leaves in it.
-/

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

/-- Every operation of the reference, in order. -/
abbrev ops : List (HloOp τ sig (Elt F)) :=
  (sizes ++ boxAreas ++ widths ++ heights0) ++ ((heights1 ++ ratios ++ picks ++ gt0) ++ ((gt1 ++ targets ++ stack ++ diffs) ++ (losses ++ means)))

theorem main_eq (c : Dev nD) : main c = seq (ops (F := F)) := by
  simp only [ops, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- An operation touches buffers of the TensorCore only, and determines what it writes. -/
def Plain (op : HloOp τ sig (Elt F)) : Prop := op.bufs ⊆ tcRefs τ sig ∧ op.fresh = ∅

theorem plain_reshape {x y : Ref sig .tc} (he hn hx hy) : Plain (F := F) (reshape x y he hn hx hy) := ⟨reshape_bufs_sub .., rfl⟩
theorem plain_nullary {y : Ref sig .tc} (v) (hy) : Plain (F := F) (nullary y v hy) := ⟨nullary_bufs_sub .., rfl⟩
theorem plain_unary {x y : Ref sig .tc} (f) (hx hy) : Plain (F := F) (unary x y f hx hy) := ⟨unary_bufs_sub .., rfl⟩
theorem plain_binary {a b y : Ref sig .tc} (f) (ha hb hy) : Plain (F := F) (binary a b y f ha hb hy) := ⟨binary_bufs_sub .., rfl⟩
theorem plain_ternary {c a b y : Ref sig .tc} (f) (hc ha hb hy) : Plain (F := F) (ternary c a b y f hc ha hb hy) := ⟨ternary_bufs_sub .., rfl⟩
theorem plain_quaternary {a b c d y : Ref sig .tc} (f) (ha hb hc hd hy) : Plain (F := F) (quaternary a b c d y f ha hb hc hd hy) :=
  ⟨quaternary_bufs_sub .., rfl⟩
theorem plain_nary {n : Nat} (xs : Fin n → Ref sig .tc) {y : Ref sig .tc} (f) (hx hy) : Plain (F := F) (nary xs y f hx hy) :=
  ⟨nary_bufs_sub .., rfl⟩

theorem plain_cons {op : HloOp τ sig (Elt F)} {l : List (HloOp τ sig (Elt F))} (h : Plain op) (hl : ∀ o ∈ l, Plain o) : ∀ o ∈ op :: l, Plain o :=
  List.forall_mem_cons.2 ⟨h, hl⟩
theorem plain_nil : ∀ o ∈ ([] : List (HloOp τ sig (Elt F))), Plain o := fun _ h => absurd h List.not_mem_nil

theorem plain_append {l l' : List (HloOp τ sig (Elt F))} (h : ∀ o ∈ l, Plain o) (h' : ∀ o ∈ l', Plain o) : ∀ o ∈ l ++ l', Plain o :=
  List.forall_mem_append.2 ⟨h, h'⟩

theorem plain_part0 : ∀ op ∈ sizes ++ boxAreas ++ widths ++ heights0 (F := F), Plain op := by
  refine plain_append (plain_append (plain_append ?_ ?_) ?_) ?_ <;>
    repeat with_reducible first | exact plain_nil | refine plain_cons ?_ ?_ | exact plain_reshape .. | exact plain_unary .. | exact plain_binary .. | exact plain_nullary ..

theorem plain_part1 : ∀ op ∈ heights1 ++ ratios ++ picks ++ gt0 (F := F), Plain op := by
  refine plain_append (plain_append (plain_append ?_ ?_) ?_) ?_ <;>
    repeat with_reducible first | exact plain_nil | refine plain_cons ?_ ?_ | exact plain_reshape .. | exact plain_unary .. | exact plain_binary .. | exact plain_nullary .. | exact plain_ternary .. | exact plain_quaternary ..

theorem plain_part2 : ∀ op ∈ gt1 ++ targets ++ stack ++ diffs (F := F), Plain op := by
  refine plain_append (plain_append (plain_append ?_ ?_) ?_) ?_ <;>
    repeat with_reducible first | exact plain_nil | refine plain_cons ?_ ?_ | exact plain_reshape .. | exact plain_unary .. | exact plain_binary .. | exact plain_nullary .. | exact plain_nary ..

theorem plain_part3 : ∀ op ∈ losses ++ means (F := F), Plain op := by
  refine plain_append ?_ ?_ <;>
    repeat with_reducible first | exact plain_nil | refine plain_cons ?_ ?_ | exact plain_reshape .. | exact plain_unary .. | exact plain_binary .. | exact plain_nullary .. | exact plain_ternary ..

theorem plain_ops : ∀ op ∈ ops (F := F), Plain op :=
  plain_append plain_part0 (plain_append plain_part1 (plain_append plain_part2 plain_part3))

/-- What device `c`'s buffers hold after the reference, from what they held before. -/
abbrev V4 (m : (ℓ : Loc nD τ sig) → Buf (Elt F) ℓ) (c : Dev nD) : Valuation τ sig (Elt F) := after ops (launchContents m c)

theorem kept_arg0 (V : Valuation τ sig (Elt F)) : after ops V (Proc.devRef .tc main_arg0) = V (Proc.devRef .tc main_arg0) := by
  simp only [ops, after_append]
  after_reads_simp
theorem kept_arg1 (V : Valuation τ sig (Elt F)) : after ops V (Proc.devRef .tc main_arg1) = V (Proc.devRef .tc main_arg1) := by
  simp only [ops, after_append]
  after_reads_simp
theorem kept_arg2 (V : Valuation τ sig (Elt F)) : after ops V (Proc.devRef .tc main_arg2) = V (Proc.devRef .tc main_arg2) := by
  simp only [ops, after_append]
  after_reads_simp

/-- Every run of the reference ends, with its arguments as they were, its result what its operations leave, and no semaphore raised. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r =>
      (∀ c : Dev nD, r.2.mem (c.tc.loc main_v186) = V4 m c (Proc.devRef .tc main_v186)
        ∧ r.2.mem (c.tc.loc main_arg0) = m (c.tc.loc main_arg0) ∧ r.2.mem (c.tc.loc main_arg1) = m (c.tc.loc main_arg1)
        ∧ r.2.mem (c.tc.loc main_arg2) = m (c.tc.loc main_arg2)) ∧ r.2.sem = fun _ => 0) := by
  refine (θ_run _ _ _).mono (fun r h => ⟨fun c => ⟨h c _, (h c _).trans (kept_arg0 _), (h c _).trans (kept_arg1 _), (h c _).trans (kept_arg2 _)⟩,
    sem_eq_zero_of_no_sems rfl _⟩)
    (run_seq scopedRefs_eq scopedSems_eq defs main (fun _ => ops) main_eq (fun _ => List.forall_iff_forall_mem.2 fun o ho => (plain_ops o ho).1) m ρ
      (fun _ o ho => (plain_ops o ho).2))

end Cert.ReferenceIdeal.Line
-- ==== Proof.Frames.lean ====
module

public import proofs.«01_k».proof.Defs
public import proofs.«01_k».proof.Proof.KernelLaunch
public import proofs.«01_k».proof.Proof.KernelIdealLaunch
public import proofs.«01_k».proof.Proof.ReferenceIdealRun

/-!
The three programs run, leave their arguments as they were and raise no semaphore for good.
-/

@[expose] public section

noncomputable section

namespace Cert.Proof

open Idealize.ShloMosaic Idealize.SL.Sem

theorem frame_kernel : quiescent_Kernel (hKernel := Cert.Kernel.Gen.facts) := fun m g _ =>
  (θ_run _ _ _).mono (fun _ h => ⟨fun c => (h.1 c).2, h.2⟩) (Cert.Kernel.Body.run m g)

theorem frame_kernelIdeal : quiescent_KernelIdeal (hKernelIdeal := Cert.KernelIdeal.Gen.facts) := fun m g _ =>
  (θ_run _ _ _).mono (fun _ h => ⟨fun c => (h.1 c).2, h.2⟩) (Cert.KernelIdeal.Body.run m g)

theorem frame_referenceIdeal : quiescent_ReferenceIdeal (hReferenceIdeal := Cert.ReferenceIdeal.Gen.facts) := fun m g _ =>
  (θ_run _ _ _).mono (fun _ h => ⟨fun c => (h.1 c).2, h.2⟩) (Cert.ReferenceIdeal.Line.run m g)

end Cert.Proof

end
-- ==== Proof.KernelIdealHost.lean ====
module

public import proofs.«01_k».proof.Proof.KernelIdealTable
public import Idealize.ShloMosaic.Lib.StableHlo.RunRead
public import Idealize.ShloMosaic.Lib.Pointwise
public import Idealize.ShloMosaic.Lib.Pipeline.ValueKit

@[expose] public section

noncomputable section

namespace Cert.KernelIdeal.Body

open Cert.KernelIdeal Cert.KernelIdeal.Gen
open Idealize.ShloMosaic Idealize.ShloMosaic.TcCoe Idealize.ShloMosaic.StableHlo

set_option maxRecDepth 8192

variable (V : Valuation τ sig (Elt Ideal)) {A : Vec Ideal S1x20000x4 .f32} {R : Vec Ideal S8x20000x4 .f32}

/-- The anchors before they are padded, and the padding. -/
abbrev padAnchors {F : FTy → Type} [FloatOps F] : List (HloOp τ sig (Elt F)) :=
  [ StableHlo.nullary main_cst (fun i => FloatOps.ofBits .f32 (lit0 (S4.rowMajor i))),
    StableHlo.reshape main_arg1 main_v0 (rfl : (.f32 : EltTy) = .f32) shapeCasts_S1x20000x4_S20000x4,
    StableHlo.unary main_cst main_v1 (broadcastInDim S480x4 ![1] bcast_S4_S480x4_1 : (⟨S4, .f32⟩ : BufTy).Contents (Elt F) → (⟨S480x4, .f32⟩ : BufTy).Contents (Elt F)) ]

theorem unpadded (hA : V (Proc.devRef .tc main_arg1) = A) (n : Fin 20000) (j : Fin 4) :
    (after padAnchors V (Proc.devRef .tc main_v0) : Vec Ideal S20000x4 .f32) (ix2 n j) = A (ix3 0 n j) := by
  after_reads_simp
  rw [hA]
  pointwise []

theorem padding (n : Fin 480) (j : Fin 4) :
    (after padAnchors V (Proc.devRef .tc main_v1) : Vec Ideal S480x4 .f32) (ix2 n j) = Ideal.ofBits .f32 (lit0 j) := by
  after_reads_simp
  pointwise []
  fin_cases j <;> rfl

theorem anchors_v {x : Vec Ideal S20000x4 .f32} {y : Vec Ideal S480x4 .f32} (hx : after padAnchors V (Proc.devRef .tc main_v0) = x)
    (hy : after padAnchors V (Proc.devRef .tc main_v1) = y) (j : Fin 4) (q : Fin 160) (l : Fin 128) :
    (after hostOps0 V (Proc.devRef .tc main_v4) : Vec Ideal S4x160x128 .f32) (ix3 j q l)
      = if h : q.val * 128 + l.val < 20000 then x (ix2 ⟨q.val * 128 + l.val, h⟩ j) else y (ix2 ⟨q.val * 128 + l.val - 20000, by omega⟩ j) := by
  after_reads_simp
  show shapeCast main_v4.ty.shape
      (transpose S4x20480 [1, 0]
        (concatenate S20480x4 0
          [⟨S20000x4, after padAnchors V (Proc.tc.devRef main_v0)⟩, ⟨S480x4, after padAnchors V (Proc.tc.devRef main_v1)⟩]
          concatenates_S20000x4_S480x4_S20480x4_d0)
        transposes_S20480x4_S4x20480_1_0)
      shapeCasts_S4x20480_S4x160x128 (ix3 j q l) = _
  rw [hx, hy]
  pointwise []

/-- The anchors as the kernel sees them: in rows of 128 lanes, padded. -/
theorem anchors_real (hA : V (Proc.devRef .tc main_arg1) = A) (j : Fin 4) (q : Fin 160) (l : Fin 128) (h : q.val * 128 + l.val < 20000) :
    (after hostOps0 V (Proc.devRef .tc main_v4) : Vec Ideal S4x160x128 .f32) (ix3 j q l) = A (ix3 0 ⟨q.val * 128 + l.val, h⟩ j) := by
  rw [anchors_v V rfl rfl, dif_pos h, unpadded V hA]

theorem anchors_pad (j : Fin 4) (q : Fin 160) (l : Fin 128) (h : ¬ q.val * 128 + l.val < 20000) :
    (after hostOps0 V (Proc.devRef .tc main_v4) : Vec Ideal S4x160x128 .f32) (ix3 j q l) = Ideal.ofBits .f32 (lit0 j) := by
  rw [anchors_v V rfl rfl, dif_neg h, padding]

/-- The operations before the regressions are padded. -/
abbrev padGuesses {F : FTy → Type} [FloatOps F] : List (HloOp τ sig (Elt F)) :=
  [ StableHlo.nullary main_cst (fun i => FloatOps.ofBits .f32 (lit0 (S4.rowMajor i))),
    StableHlo.reshape main_arg1 main_v0 (rfl : (.f32 : EltTy) = .f32) shapeCasts_S1x20000x4_S20000x4,
    StableHlo.unary main_cst main_v1 (broadcastInDim S480x4 ![1] bcast_S4_S480x4_1 : (⟨S4, .f32⟩ : BufTy).Contents (Elt F) → (⟨S480x4, .f32⟩ : BufTy).Contents (Elt F)),
    StableHlo.binary main_v0 main_v1 main_v2 ((fun a b => concatenate S20480x4 0 [⟨S20000x4, a⟩, ⟨S480x4, b⟩] concatenates_S20000x4_S480x4_S20480x4_d0) : (⟨S20000x4, .f32⟩ : BufTy).Contents (Elt F) → (⟨S480x4, .f32⟩ : BufTy).Contents (Elt F) → (⟨S20480x4, .f32⟩ : BufTy).Contents (Elt F)),
    StableHlo.unary main_v2 main_v3 ((transpose S4x20480 [1, 0] · transposes_S20480x4_S4x20480_1_0) : (⟨S20480x4, .f32⟩ : BufTy).Contents (Elt F) → (⟨S4x20480, .f32⟩ : BufTy).Contents (Elt F)),
    StableHlo.reshape main_v3 main_v4 (rfl : (.f32 : EltTy) = .f32) shapeCasts_S4x20480_S4x160x128,
    StableHlo.nullary main_cst_0 (constant S_ .f32 0x00000000#32),
    StableHlo.unary main_cst_0 main_v5 (broadcastInDim S8x480x4 ![] bcast_S_S8x480x4 : (⟨S_, .f32⟩ : BufTy).Contents (Elt F) → (⟨S8x480x4, .f32⟩ : BufTy).Contents (Elt F)) ]

/-- The regressions as the kernel sees them, where they are not padding. -/
theorem guesses_real (hR : V (Proc.devRef .tc main_arg0) = R) (b : Fin 8) (j : Fin 4) (q : Fin 160) (l : Fin 128) (h : q.val * 128 + l.val < 20000) :
    (after hostOps0 V (Proc.devRef .tc main_v8) : Vec Ideal S8x4x160x128 .f32) (ix4 b j q l) = R (ix3 b ⟨q.val * 128 + l.val, h⟩ j) := by
  have e : after padGuesses V (Proc.devRef .tc main_arg0) = V (Proc.devRef .tc main_arg0) := by after_reads_simp
  rw [← hR, ← e]
  after_reads_simp
  show shapeCast main_v8.ty.shape
      (transpose S8x4x20480 [0, 2, 1]
        (concatenate S8x20480x4 1
          [⟨S8x20000x4, after padGuesses V (Proc.tc.devRef main_arg0)⟩,
            ⟨S8x480x4, after padGuesses V (Proc.tc.devRef main_v5)⟩]
          concatenates_S8x20000x4_S8x480x4_S8x20480x4_d1)
        transposes_S8x20480x4_S8x4x20480_0_2_1)
      shapeCasts_S8x4x20480_S8x4x160x128 (ix4 b j q l) = V (Proc.devRef .tc main_arg0) _
  rw [← e]
  generalize after padGuesses V (Proc.tc.devRef main_arg0) = x
  generalize after padGuesses V (Proc.tc.devRef main_v5) = y
  pointwise []
  rw [dif_pos h]

/-! ## The blocks of a grid point -/

variable (m : (ℓ : Loc nD τ sig) → Buf (Elt Ideal) ℓ) (c : Dev nD)

theorem index0 : ∀ t : Fin cfg0.N, win0_0.index t 0 = 0 ∧ win0_0.index t 1 = t.val % 10 ∧ win0_0.index t 2 = 0 := by decide +kernel
theorem index1 : ∀ t : Fin cfg0.N, win0_1.index t 0 = t.val / 10 ∧ win0_1.index t 1 = 0 ∧ win0_1.index t 2 = t.val % 10 ∧ win0_1.index t 3 = 0 := by decide +kernel
theorem index2 : ∀ t : Fin cfg0.N, win0_2.index t 0 = 0 ∧ win0_2.index t 1 = 0 ∧ win0_2.index t 2 = 0 := by decide +kernel

theorem point_val (b : Fin 8) {k : ℕ} (hk : k < 10) : (pointOf b k).val / 10 = b.val ∧ (pointOf b k).val % 10 = k := by
  show (10 * b.val + k % 10) / 10 = b.val ∧ (10 * b.val + k % 10) % 10 = k
  omega

theorem anchorsAt_at (b : Fin 8) {k : ℕ} (hk : k < 10) (r : Fin 16) (l : Fin 128) (j : Fin 4) {q : Fin 160} (hq : q.val = 16 * k + r.val) :
    anchorsAt m c (pointOf b k) (ix3 j r l) = (V1 m c (Proc.devRef .tc main_v4) : Vec Ideal S4x160x128 .f32) (ix3 j q l) := by
  obtain ⟨h0, h1, h2⟩ := index0 (pointOf b k)
  rw [(point_val b hk).2] at h1
  blk_ext! [iblk, h0, h1, h2]

theorem regressAt_at (b : Fin 8) {k : ℕ} (hk : k < 10) (r : Fin 16) (l : Fin 128) (j : Fin 4) {q : Fin 160} (hq : q.val = 16 * k + r.val) :
    regressAt m c (pointOf b k) (ix4 0 j r l) = (V1 m c (Proc.devRef .tc main_v8) : Vec Ideal S8x4x160x128 .f32) (ix4 b j q l) := by
  obtain ⟨h0, h1, h2, h3⟩ := index1 (pointOf b k)
  rw [(point_val b hk).1] at h0
  rw [(point_val b hk).2] at h2
  blk_ext! [iblk, h0, h1, h2, h3]

theorem boxesAt_at (b : Fin 8) (k : ℕ) (i : S8x32x5.Idx) :
    boxesAt m c (pointOf b k) i = (V1 m c (Proc.devRef .tc main_arg2) : Vec Ideal S8x32x5 .f32) i := by
  obtain ⟨h0, h1, h2⟩ := index2 (pointOf b k)
  blk_ext! [iblk, h0, h1, h2]

end Cert.KernelIdeal.Body

end
-- ==== Proof.First.lean ====
module

public import Mathlib.Data.EReal.Basic
public import Mathlib.Data.Fintype.Order
public import Mathlib.Data.Finset.Fold
public import Mathlib.Data.Fintype.Basic
public import Mathlib.Order.Fin.Basic

/-!
The first place at which a finite family of extended reals is greatest.
-/

@[expose] public section

namespace Cert.Spec

/-- `a` is the first place at which `r` is greatest. -/
def First {n : ℕ} (r : Fin n → EReal) (a : Fin n) : Prop := ∀ k, r k < r a ∨ (r k = r a ∧ a ≤ k)

theorem First.le {n : ℕ} {r : Fin n → EReal} {a : Fin n} (h : First r a) (k : Fin n) : r k ≤ r a := (h k).elim le_of_lt fun e => e.1.le

theorem First.unique {n : ℕ} {r : Fin n → EReal} {a b : Fin n} (ha : First r a) (hb : First r b) : a = b := by
  rcases ha b with h | h
  · exact absurd (hb.le a) (not_le.2 h)
  · rcases hb a with h' | h'
    · exact absurd h.1 h'.ne'
    · exact le_antisymm h.2 h'.2

/-- Either of two places, the one that comes out ahead. -/
def Ahead {n : ℕ} (r : Fin n → EReal) (a b : Fin n) : Prop := r b < r a ∨ (r b = r a ∧ a ≤ b)

theorem Ahead.trans {n : ℕ} {r : Fin n → EReal} {a b c : Fin n} (h : Ahead r a b) (h' : Ahead r b c) : Ahead r a c := by
  rcases h with h | ⟨h, l⟩ <;> rcases h' with h' | ⟨h', l'⟩
  · exact Or.inl (h'.trans h)
  · exact Or.inl (h'.trans_lt h)
  · exact Or.inl (h'.trans_eq h)
  · exact Or.inr ⟨h'.trans h, l.trans l'⟩

theorem ahead_self {n : ℕ} (r : Fin n → EReal) (a : Fin n) : Ahead r a a := Or.inr ⟨rfl, le_rfl⟩

theorem exists_first {n : ℕ} (r : Fin (n + 1) → EReal) : ∃ a, First r a := by
  induction n with
  | zero => exact ⟨0, fun k => by
      obtain rfl : k = 0 := Fin.ext (by omega)
      exact Or.inr ⟨rfl, le_rfl⟩⟩
  | succ n ih =>
    obtain ⟨a, ha⟩ := ih fun k => r k.succ
    by_cases h : r a.succ ≤ r 0
    · refine ⟨0, fun k => ?_⟩
      have hk : r k ≤ r 0 := Fin.cases le_rfl (fun k => (First.le ha k).trans h) k
      exact (eq_or_lt_of_le hk).elim (fun e => Or.inr ⟨e, Fin.zero_le k⟩) Or.inl
    · refine ⟨a.succ, fun k => ?_⟩
      refine Fin.cases (Or.inl (not_le.1 h)) (fun k => ?_) k
      exact (ha k).imp id fun e => ⟨e.1, Fin.succ_le_succ_iff.2 e.2⟩

/-- The first place at which `r` is greatest. -/
noncomputable def best {n : ℕ} (r : Fin (n + 1) → EReal) : Fin (n + 1) := (exists_first r).choose

theorem best_first {n : ℕ} (r : Fin (n + 1) → EReal) : First r (best r) := (exists_first r).choose_spec

theorem First.eq_best {n : ℕ} {r : Fin (n + 1) → EReal} {a : Fin (n + 1)} (h : First r a) : a = best r := h.unique (best_first r)

/-- The greatest value is the value at the first greatest place. -/
theorem fold_max_best {n : ℕ} (r : Fin (n + 1) → EReal) : (Finset.univ.fold max ⊥ fun k => r k) = r (best r) :=
  le_antisymm ((Finset.fold_max_le _).2 ⟨bot_le, fun k _ => (best_first r).le k⟩) ((Finset.le_fold_max _).2 (Or.inr ⟨best r, Finset.mem_univ _, le_rfl⟩))

end Cert.Spec
-- ==== Proof.Spec.lean ====
module

public import Idealize.ShloMosaic.PureOps.Ideal
public import Idealize.ShloMosaic.Lib.IdealHost
public import proofs.«01_k».proof.Proof.First

/-!
The loss of one anchor, as plain arithmetic on extended reals. An anchor `a` is `(y₁, x₁, y₂, x₂)`, a box `g` is `(x₁, y₁, x₂, y₂)`.
-/

@[expose] public section

noncomputable section

namespace Cert.Spec

open Idealize.ShloMosaic

/-- One half. -/
def half : EReal := Ideal.ofBits .f32 0x3F000000#32
/-- The floor under the area of a union. -/
def tiny : EReal := Ideal.ofBits .f32 0x322BCC77#32
/-- The distance up to which the loss is quadratic. -/
def knee : EReal := Ideal.ofBits .f32 0x3DE38E39#32
/-- The factor of the quadratic part. -/
def steep : EReal := Ideal.ofBits .f32 0x40900000#32
/-- What the linear part takes off. -/
def drop : EReal := Ideal.ofBits .f32 0x3D638E39#32

variable (a g : Fin 4 → EReal)

/-- The overlap of anchor and box. -/
def over : EReal :=
  max 0 (min (a 3) (g 2) - max (a 1) (g 0)) * max 0 (min (a 2) (g 3) - max (a 0) (g 1))
/-- The area of the union, at least `tiny`. -/
def union : EReal := max tiny ((a 2 - a 0) * (a 3 - a 1) + (g 2 - g 0) * (g 3 - g 1) - over a g)
/-- Overlap over union. -/
def ratio : EReal := Ideal.div (over a g) (union a g)

/-- The midpoint of an interval from its lower end and its length. -/
def centre (lo size : EReal) : EReal := lo + half * size

/-- The four regression targets of an anchor matched to a box. -/
def target : Fin 4 → EReal :=
  ![Ideal.div (centre (g 1) (g 3 - g 1) - centre (a 0) (a 2 - a 0)) (a 2 - a 0),
    Ideal.div (centre (g 0) (g 2 - g 0) - centre (a 1) (a 3 - a 1)) (a 3 - a 1),
    Ideal.log (Ideal.div (max 1 (g 3 - g 1)) (a 2 - a 0)),
    Ideal.log (Ideal.div (max 1 (g 2 - g 0)) (a 3 - a 1))]

/-- The loss at a distance: quadratic near zero, linear beyond. -/
def smooth (d : EReal) : EReal := if d ≤ knee then steep * (d * d) else d - drop

/-- The distance of a target from what was regressed. -/
def dist (t r : EReal) : EReal := max (t - r) (-(t - r))

/-- The loss of one channel. -/
def loss (r : Fin 4 → EReal) (j : Fin 4) : EReal := smooth (dist (target a g j) (r j))

/-- The box, among those of an image, that an anchor is matched to. -/
def pick (a : Fin 4 → EReal) (g : Fin 32 → Fin 4 → EReal) : Fin 32 := best fun k => ratio a (g k)

/-- Whether the anchor overlaps its box enough to count. -/
def Hit (a : Fin 4 → EReal) (g : Fin 32 → Fin 4 → EReal) : Prop := half ≤ ratio a (g (pick a g))

open Classical in
/-- The loss of one anchor. -/
def anchorLoss (a : Fin 4 → EReal) (g : Fin 32 → Fin 4 → EReal) (r : Fin 4 → EReal) : EReal :=
  if Hit a g then ∑ j, loss a (g (pick a g)) r j else 0

/-- An image's loss, from its anchors' summed loss and the number of anchors that count. -/
def share (s : EReal) (n : ℕ) : EReal := if 0 < n then Ideal.div s (4 * ((max n 1 : ℕ) : EReal)) else 0

end Cert.Spec

end
-- ==== Proof.Pass.lean ====
module

public import proofs.«01_k».proof.Proof.Spec

/-!
A pass over the boxes that compares overlaps and unions crosswise, without dividing, ends at the box of the greatest ratio whenever
that ratio is positive.
-/

@[expose] public section

noncomputable section

namespace Cert.Spec

open Idealize.ShloMosaic

/-! ## Overlap, union and ratio -/

theorem zero_le_over (a g : Fin 4 → EReal) : 0 ≤ over a g := mul_nonneg (le_max_left _ _) (le_max_left _ _)

theorem tiny_pos : 0 < tiny := by
  unfold tiny
  simp [Ideal.ofBits, Ideal.ieee, -EReal.coe_mul]

theorem tiny_lt_top : tiny < ⊤ := by
  unfold tiny
  simp [Ideal.ofBits, Ideal.ieee, -EReal.coe_mul]

theorem union_pos (a g : Fin 4 → EReal) : 0 < union a g := tiny_pos.trans_le (le_max_left _ _)

/-- An infinite overlap leaves the least union. -/
theorem union_of_top {a g : Fin 4 → EReal} (h : over a g = ⊤) : union a g ≠ ⊤ := by
  unfold union
  rw [h, EReal.sub_top, max_eq_left bot_le]
  exact tiny_lt_top.ne

theorem ratio_eq (a g : Fin 4 → EReal) : ratio a g = over a g / union a g := by
  unfold ratio Ideal.div
  rw [if_neg (union_pos a g).ne']
  rfl

theorem zero_le_ratio (a g : Fin 4 → EReal) : 0 ≤ ratio a g := by
  rw [ratio_eq]
  exact EReal.div_nonneg (zero_le_over a g) (union_pos a g).le

/-- Comparing two quotients crosswise, their numerators not negative and their denominators positive. -/
theorem cross_lt {i u i' u' : EReal} (hi : 0 ≤ i) (hu : 0 < u) (hu' : 0 < u') (h : i * u' < i' * u) :
    i / u ≤ i' / u' ∧ (0 < i' / u' → i / u < i' / u') := by
  by_cases t : u = ⊤
  · subst t
    rw [EReal.div_top]
    refine ⟨?_, id⟩
    have p : 0 < i' := by
      by_contra n
      exact absurd (h.trans_le (mul_nonpos_of_nonpos_of_nonneg (not_lt.1 n) le_top)) (not_lt.2 (mul_nonneg hi hu'.le))
    exact EReal.div_nonneg p.le hu'.le
  · by_cases t' : u' = ⊤
    · subst t'
      rw [EReal.div_top]
      refine ⟨?_, fun e => absurd e (lt_irrefl _)⟩
      rcases hi.eq_or_lt with e | e
      · rw [← e, EReal.zero_div]
      · rw [EReal.mul_top_of_pos e] at h
        exact absurd h not_top_lt
    · have l : i / u < i' / u' := by
        rw [EReal.lt_div_iff hu' t', EReal.mul_div_right, EReal.div_lt_iff hu t]
        exact h
      exact ⟨l.le, fun _ => l⟩

theorem cross_le {i u i' u' : EReal} (hi : 0 ≤ i) (hu : 0 < u) (ht : i = ⊤ → u ≠ ⊤) (hu' : 0 < u') (h : ¬ i * u' < i' * u) :
    i' / u' ≤ i / u := by
  by_cases t' : u' = ⊤
  · rw [t', EReal.div_top]
    exact EReal.div_nonneg hi hu.le
  · by_cases t : u = ⊤
    · subst t
      rw [EReal.div_top]
      by_contra n
      have p : 0 < i' := by
        by_contra m
        exact n (EReal.div_nonpos_of_nonpos_of_nonneg (not_lt.1 m) hu'.le)
      refine h ?_
      rw [EReal.mul_top_of_pos p]
      lift i to ℝ using ⟨fun e => ht e rfl, (EReal.bot_lt_zero.trans_le hi).ne'⟩
      lift u' to ℝ using ⟨t', (EReal.bot_lt_zero.trans hu').ne'⟩
      rw [← EReal.coe_mul]
      exact EReal.coe_lt_top _
    · by_contra n
      refine h ?_
      have l := not_le.1 n
      rwa [EReal.lt_div_iff hu' t', EReal.mul_div_right, EReal.div_lt_iff hu t] at l

/-- Half the ratio's test without dividing. -/
theorem half_le_iff (a g : Fin 4 → EReal) : union a g ≤ over a g * 2 ↔ half ≤ ratio a g := by
  have e : half = ((1 / 2 : ℝ) : EReal) := by
    unfold half
    simp [Ideal.ofBits, Ideal.ieee, -EReal.coe_mul]
    norm_num
  have p := union_pos a g
  have o := zero_le_over a g
  have ht := union_of_top (a := a) (g := g)
  rw [ratio_eq, e]
  generalize union a g = u at *
  generalize over a g = i at *
  by_cases t : u = ⊤
  · subst t
    have hi : i ≠ ⊤ := fun e => ht e rfl
    lift i to ℝ using ⟨hi, (EReal.bot_lt_zero.trans_le o).ne'⟩
    rw [EReal.div_top, show (2 : EReal) = ((2 : ℝ) : EReal) from rfl, ← EReal.coe_mul]
    exact ⟨fun h => absurd h (not_le.2 (EReal.coe_lt_top _)), fun h => absurd h (not_le.2 (by exact_mod_cast (by norm_num : (0 : ℝ) < 1 / 2)))⟩
  · rw [EReal.le_div_iff_mul_le p t]
    lift u to ℝ using ⟨t, (EReal.bot_lt_zero.trans p).ne'⟩
    induction i with
    | bot => exact absurd o (not_le.2 EReal.bot_lt_zero)
    | top => simp [show (2 : EReal) = ((2 : ℝ) : EReal) from rfl, EReal.top_mul_coe_of_pos]
    | coe i =>
      rw [show (2 : EReal) = ((2 : ℝ) : EReal) from rfl, ← EReal.coe_mul, ← EReal.coe_mul, EReal.coe_le_coe_iff, EReal.coe_le_coe_iff]
      constructor <;> intro h <;> linarith

theorem half_pos : 0 < half := by
  unfold half
  simp [Ideal.ofBits, Ideal.ieee, -EReal.coe_mul]

/-! ## The pass -/

/-- What is remembered of a box for an anchor: overlap, union, centre, logarithms of the sides. -/
def mark (a g : Fin 4 → EReal) : EReal × EReal × EReal × EReal × EReal × EReal :=
  (over a g, union a g, centre (g 0) (g 2 - g 0), centre (g 1) (g 3 - g 1), Ideal.log (max 1 (g 2 - g 0)), Ideal.log (max 1 (g 3 - g 1)))

open Classical in
/-- One box of the pass. -/
def advance (a g : Fin 4 → EReal) (s : EReal × EReal × EReal × EReal × EReal × EReal) : EReal × EReal × EReal × EReal × EReal × EReal :=
  if s.1 * union a g < over a g * s.2.1 then mark a g else s

variable {a : Fin 4 → EReal} {g : ℕ → Fin 4 → EReal} {s : ℕ → EReal × EReal × EReal × EReal × EReal × EReal}

theorem first_taken (a g : Fin 4 → EReal) : -1 * union a g < over a g * 1 := by
  rw [mul_one, EReal.neg_mul, one_mul]
  exact lt_of_lt_of_le (by rw [EReal.neg_lt_comm, neg_zero]; exact union_pos a g) (zero_le_over a g)

/-- After some boxes the pass remembers one of greatest ratio, and the first such if the ratio is positive. -/
theorem pass_mark (h0 : (s 0).1 = -1 ∧ (s 0).2.1 = 1) (hs : ∀ k, s (k + 1) = advance a (g k) (s k)) (k : ℕ) :
    ∃ p ≤ k, s (k + 1) = mark a (g p) ∧ (∀ q ≤ k, ratio a (g q) ≤ ratio a (g p))
      ∧ (0 < ratio a (g p) → ∀ q < p, ratio a (g q) < ratio a (g p)) := by
  induction k with
  | zero =>
    refine ⟨0, le_rfl, ?_, fun q h => ?_, fun _ q h => absurd h (Nat.not_lt_zero _)⟩
    · rw [hs, advance, if_pos]
      rw [h0.1, h0.2]
      exact first_taken _ _
    · rw [Nat.le_zero.1 h]
  | succ k ih =>
    obtain ⟨p, hp, e, hle, hlt⟩ := ih
    rw [hs, advance, e]
    show ∃ r ≤ k + 1, (if over a (g p) * union a (g (k + 1)) < over a (g (k + 1)) * union a (g p) then _ else _) = _ ∧ _
    by_cases c : over a (g p) * union a (g (k + 1)) < over a (g (k + 1)) * union a (g p)
    · have l := cross_lt (zero_le_over _ _) (union_pos _ _) (union_pos _ _) c
      rw [← ratio_eq, ← ratio_eq] at l
      refine ⟨k + 1, le_rfl, if_pos c, fun q h => ?_, fun h q hq => ?_⟩
      · rcases Nat.le_succ_iff.1 h with h | rfl
        · exact (hle q h).trans l.1
        · exact le_rfl
      · exact (hle q (Nat.lt_succ_iff.1 hq)).trans_lt (l.2 h)
    · have l := cross_le (zero_le_over _ _) (union_pos _ _) union_of_top (union_pos _ _) c
      rw [← ratio_eq, ← ratio_eq] at l
      refine ⟨p, hp.trans (Nat.le_succ k), if_neg c, fun q h => ?_, hlt⟩
      rcases Nat.le_succ_iff.1 h with h | rfl
      · exact hle q h
      · exact l

/-- The pass over an image's boxes. -/
theorem pass_pick {G : Fin 32 → Fin 4 → EReal} (hG : ∀ k : Fin 32, g k.val = G k) (h0 : (s 0).1 = -1 ∧ (s 0).2.1 = 1)
    (hs : ∀ k, s (k + 1) = advance a (g k) (s k)) :
    ∃ p, s 32 = mark a (G p) ∧ (half ≤ ratio a (G p) ↔ Hit a G) ∧ (Hit a G → p = pick a G) := by
  obtain ⟨p, hp, e, hle, hlt⟩ := pass_mark h0 hs 31
  have hp' : p < 32 := by omega
  rw [show g p = G ⟨p, hp'⟩ from hG ⟨p, hp'⟩] at e hle hlt
  have top : ratio a (G ⟨p, hp'⟩) = ratio a (G (pick a G)) := by
    refine le_antisymm ((best_first fun k => ratio a (G k)).le _) ?_
    have := hle (pick a G).val (by have := (pick a G).isLt; omega)
    rwa [hG] at this
  refine ⟨⟨p, hp'⟩, e, by rw [top]; exact Iff.rfl, fun h => ?_⟩
  have pos : 0 < ratio a (G ⟨p, hp'⟩) := by rw [top]; exact half_pos.trans_le h
  refine First.eq_best (r := fun k => ratio a (G k)) fun k => ?_
  by_cases hk : k.val < p
  · have := hlt pos k.val hk
    rw [hG] at this
    exact Or.inl this
  · have := hle k.val (by have := k.isLt; omega)
    rw [hG] at this
    exact this.lt_or_eq.imp id fun e => ⟨e, not_lt.1 hk⟩

/-! ## The targets of an anchor that counts -/

/-- An anchor with a positive ratio has positive sides. -/
theorem sides_pos {a g : Fin 4 → EReal} (h : 0 < ratio a g) : 0 < a 2 - a 0 ∧ 0 < a 3 - a 1 := by
  have o : over a g ≠ 0 := fun e => by rw [ratio_eq, e, EReal.zero_div] at h; exact lt_irrefl _ h
  unfold over at o
  have l : ∀ {x : EReal}, max 0 x ≠ 0 → 0 < x := fun {x} e => by
    by_contra n
    exact e (max_eq_left (not_lt.1 n))
  have w := EReal.sub_pos.1 (l (left_ne_zero_of_mul o))
  have t := EReal.sub_pos.1 (l (right_ne_zero_of_mul o))
  exact ⟨EReal.sub_pos.2 ((le_max_left _ _).trans_lt (t.trans_le (min_le_left _ _))),
    EReal.sub_pos.2 ((le_max_left _ _).trans_lt (w.trans_le (min_le_left _ _)))⟩

/-- The logarithm of a quotient. -/
theorem log_div {x y : EReal} (hx : 1 ≤ x) (hy : 0 < y) : Ideal.log (Ideal.div x y) = Ideal.log x - Ideal.log y := by
  unfold Ideal.div
  rw [if_neg hy.ne']
  have x0 : 0 < x := zero_lt_one.trans_le hx
  by_cases ty : y = ⊤
  · subst ty
    rw [EReal.inv_top, mul_zero]
    show Ideal.log ((0 : ℝ) : EReal) = _ - ⊤
    rw [EReal.sub_top]
    exact if_pos le_rfl
  lift y to ℝ using ⟨ty, (EReal.bot_lt_zero.trans hy).ne'⟩
  have hy' : (0 : ℝ) < y := by exact_mod_cast hy
  have ly : Ideal.log (y : EReal) = ((Real.log y : ℝ) : EReal) := if_neg (not_le.2 hy')
  rw [ly]
  by_cases tx : x = ⊤
  · subst tx
    rw [← EReal.coe_inv, EReal.top_mul_coe_of_pos (inv_pos.2 hy')]
    exact (EReal.top_sub_coe _).symm
  lift x to ℝ using ⟨tx, (EReal.bot_lt_zero.trans x0).ne'⟩
  have hx' : (0 : ℝ) < x := by exact_mod_cast x0
  rw [← EReal.coe_inv, ← EReal.coe_mul, show Ideal.log (x : EReal) = ((Real.log x : ℝ) : EReal) from if_neg (not_le.2 hx'), ← EReal.coe_sub,
    ← Real.log_div hx'.ne' hy'.ne', show x * y⁻¹ = x / y from rfl]
  exact if_neg (not_le.2 (div_pos hx' hy'))

/-- The four regression targets from what the pass remembers. -/
def aim (a : Fin 4 → EReal) (m : EReal × EReal × EReal × EReal × EReal × EReal) : Fin 4 → EReal :=
  ![Ideal.div (m.2.2.2.1 - centre (a 0) (a 2 - a 0)) (a 2 - a 0),
    Ideal.div (m.2.2.1 - centre (a 1) (a 3 - a 1)) (a 3 - a 1),
    m.2.2.2.2.2 - Ideal.log (a 2 - a 0),
    m.2.2.2.2.1 - Ideal.log (a 3 - a 1)]

theorem aim_mark {a g : Fin 4 → EReal} (h : 0 < ratio a g) : aim a (mark a g) = target a g := by
  funext j
  unfold aim target mark
  fin_cases j
  · rfl
  · rfl
  · exact (log_div (le_max_left _ _) (sides_pos h).1).symm
  · exact (log_div (le_max_left _ _) (sides_pos h).2).symm

open Classical in
/-- The loss of an anchor from what the pass over its boxes ends with. -/
theorem anchorLoss_eq {G : Fin 32 → Fin 4 → EReal} {m : EReal × EReal × EReal × EReal × EReal × EReal} {p : Fin 32} (e : m = mark a (G p))
    (hh : half ≤ ratio a (G p) ↔ Hit a G) (hp : Hit a G → p = pick a G) (r : Fin 4 → EReal) :
    (if m.2.1 ≤ m.1 * 2 then ∑ j, smooth (dist (aim a m j) (r j)) else 0) = anchorLoss a G r := by
  subst e
  have q : (mark a (G p)).2.1 ≤ (mark a (G p)).1 * 2 ↔ Hit a G := (half_le_iff a (G p)).trans hh
  unfold anchorLoss
  by_cases h : Hit a G
  · rw [if_pos (q.2 h), if_pos h, aim_mark (half_pos.trans_le (hh.2 h)), hp h]
    rfl
  · rw [if_neg (fun e => h (q.1 e)), if_neg h]

/-! ## Padding -/

/-- An anchor to the left of every box does not count. -/
theorem not_hit_of_left {G : Fin 32 → Fin 4 → EReal} (h : ∀ k, a 3 ≤ G k 0) : ¬ Hit a G := by
  unfold Hit
  rw [ratio_eq]
  have o : over a (G (pick a G)) = 0 := by
    unfold over
    rw [max_eq_left (EReal.sub_nonpos.2 ((min_le_left _ _).trans ((h _).trans (le_max_right _ _)))), zero_mul]
  rw [o, EReal.zero_div]
  exact not_le.2 half_pos

end Cert.Spec

end
-- ==== Proof.KernelIdealLane.lean ====
module

public import proofs.«01_k».proof.Proof.KernelIdealBody
public import proofs.«01_k».proof.Proof.Pass
public import Idealize.ShloMosaic.Lib.Pointwise

/-!
One anchor of a block, followed through the kernel's pass over the boxes.
-/

@[expose] public section

noncomputable section

namespace Cert.KernelIdeal.Body

open Cert.KernelIdeal Cert.KernelIdeal.Gen
open Idealize.ShloMosaic Idealize.ShloMosaic.TcCoe
open Cert.Spec

set_option maxRecDepth 8192

/-- The four coordinates of the anchor at row `r` and lane `l` of a block. -/
def spot (x0 : Vec Ideal S4x16x128 .f32) (r : Fin 16) (l : Fin 128) (j : Fin 4) : EReal := x0 (ix3 j r l)

/-- What is carried for that anchor. -/
def lane (a : Carry Ideal) (r : Fin 16) (l : Fin 128) : EReal × EReal × EReal × EReal × EReal × EReal :=
  (a.1 (ix2 r l), a.2.1 (ix2 r l), a.2.2.1 (ix2 r l), a.2.2.2.1 (ix2 r l), a.2.2.2.2.1 (ix2 r l), a.2.2.2.2.2 (ix2 r l))

variable (x0 : Vec Ideal S4x16x128 .f32) (r : Fin 16) (l : Fin 128)

/-- A row and a lane, read through a window that starts at nought in both. -/
theorem from_zero (n k : ℕ) : n + 1 * k = n + k := by rw [one_mul]

theorem plane0_ld : plane0 x0 (ix3 0 r l) = spot x0 r l 0 := congrArg x0 (funext fun a => Fin.ext (by
  fin_cases a
  · rfl
  · exact (from_zero 0 _).trans (Nat.zero_add _)
  · exact (from_zero 0 _).trans (Nat.zero_add _)))
theorem plane1_ld : plane1 x0 (ix3 0 r l) = spot x0 r l 1 := congrArg x0 (funext fun a => Fin.ext (by
  fin_cases a
  · rfl
  · exact (from_zero 0 _).trans (Nat.zero_add _)
  · exact (from_zero 0 _).trans (Nat.zero_add _)))
theorem plane2_ld : plane2 x0 (ix3 0 r l) = spot x0 r l 2 := congrArg x0 (funext fun a => Fin.ext (by
  fin_cases a
  · rfl
  · exact (from_zero 0 _).trans (Nat.zero_add _)
  · exact (from_zero 0 _).trans (Nat.zero_add _)))
theorem plane3_ld : plane3 x0 (ix3 0 r l) = spot x0 r l 3 := congrArg x0 (funext fun a => Fin.ext (by
  fin_cases a
  · rfl
  · exact (from_zero 0 _).trans (Nat.zero_add _)
  · exact (from_zero 0 _).trans (Nat.zero_add _)))

theorem plane0_at : (k0_pay14 (plane0 x0) : FVec Ideal S16x128 .f32) (ix2 r l) = spot x0 r l 0 := by
  rw [← plane0_ld]
  pointwise [k0_pay14]
theorem plane1_at : (k0_pay15 (plane1 x0) : FVec Ideal S16x128 .f32) (ix2 r l) = spot x0 r l 1 := by
  rw [← plane1_ld]
  pointwise [k0_pay15]
theorem plane2_at : (k0_pay16 (plane2 x0) : FVec Ideal S16x128 .f32) (ix2 r l) = spot x0 r l 2 := by
  rw [← plane2_ld]
  pointwise [k0_pay16]
theorem plane3_at : (k0_pay17 (plane3 x0) : FVec Ideal S16x128 .f32) (ix2 r l) = spot x0 r l 3 := by
  rw [← plane3_ld]
  pointwise [k0_pay17]

theorem area_at : (k0_pay20 (plane0 x0) (plane1 x0) (plane2 x0) (plane3 x0) : FVec Ideal S16x128 .f32) (ix2 r l)
    = (spot x0 r l 2 - spot x0 r l 0) * (spot x0 r l 3 - spot x0 r l 1) := by
  rw [← plane0_ld, ← plane1_ld, ← plane2_ld, ← plane3_ld]
  pointwise [k0_pay20, k0_pay18, k0_pay19, k0_pay14, k0_pay15, k0_pay16, k0_pay17]

/-! ## One box -/

section box

variable {v1 v3 v5 v7 v16 i u : FVec Ideal S16x128 .f32} {a g : Fin 4 → EReal} {r : Fin 16} {l : Fin 128}

theorem over_at (h0 : v1 (ix2 r l) = a 0) (h1 : v3 (ix2 r l) = a 1) (h2 : v5 (ix2 r l) = a 2) (h3 : v7 (ix2 r l) = a 3) :
    (k0_pay9 v1 v3 v5 v7 (g 0) (g 1) (g 2) (g 3) : FVec Ideal S16x128 .f32) (ix2 r l) = over a g := by
  pointwise [k0_pay9, over, h0, h1, h2, h3]
  rw [max_comm, max_comm (min (a 2) (g 3) - max (a 0) (g 1))]

theorem union_at (h0 : v1 (ix2 r l) = a 0) (h1 : v3 (ix2 r l) = a 1) (h2 : v5 (ix2 r l) = a 2) (h3 : v7 (ix2 r l) = a 3)
    (h : v16 (ix2 r l) = (a 2 - a 0) * (a 3 - a 1)) :
    (k0_pay10 v1 v3 v5 v7 v16 (g 0) (g 1) (g 2) (g 3) : FVec Ideal S16x128 .f32) (ix2 r l) = union a g := by
  unfold union
  rw [← over_at h0 h1 h2 h3, ← h]
  pointwise [k0_pay10, k0_pay3, k0_pay4, tiny]
  exact max_comm _ _

theorem test_at (h0 : v1 (ix2 r l) = a 0) (h1 : v3 (ix2 r l) = a 1) (h2 : v5 (ix2 r l) = a 2) (h3 : v7 (ix2 r l) = a 3)
    (h : v16 (ix2 r l) = (a 2 - a 0) * (a 3 - a 1)) :
    (k0_pay11 v1 v3 v5 v7 v16 i u (g 0) (g 1) (g 2) (g 3) : IVec S16x128 1) (ix2 r l)
      = Ideal.cmp .ogt (over a g * u (ix2 r l)) (i (ix2 r l) * union a g) := by
  rw [← over_at h0 h1 h2 h3, ← union_at h0 h1 h2 h3 h]
  pointwise [k0_pay11]

end box

theorem trip_at (g : Fin 4 → EReal) (a : Carry Ideal) :
    lane (trip (plane0 x0) (plane1 x0) (plane2 x0) (plane3 x0) g a) r l = advance (spot x0 r l) g (lane a r l) := by
  have o := over_at (g := g) (plane0_at x0 r l) (plane1_at x0 r l) (plane2_at x0 r l) (plane3_at x0 r l)
  have u := union_at (g := g) (plane0_at x0 r l) (plane1_at x0 r l) (plane2_at x0 r l) (plane3_at x0 r l) (area_at x0 r l)
  have t := test_at (g := g) (i := a.1) (u := a.2.1) (plane0_at x0 r l) (plane1_at x0 r l) (plane2_at x0 r l) (plane3_at x0 r l) (area_at x0 r l)
  unfold advance
  by_cases c : (lane a r l).1 * Spec.union (spot x0 r l) g < over (spot x0 r l) g * (lane a r l).2.1
  · have b : Ideal.cmp .ogt (over (spot x0 r l) g * a.2.1 (ix2 r l)) (a.1 (ix2 r l) * Spec.union (spot x0 r l) g) = 1#1 :=
      congrArg BitVec.ofBool (decide_eq_true c)
    rw [b] at t
    rw [if_pos c]
    unfold lane trip mark
    refine Prod.ext ?_ (Prod.ext ?_ (Prod.ext ?_ (Prod.ext ?_ (Prod.ext ?_ ?_))))
    · pointwise [k0_pay12, t, o]
    · pointwise [k0_pay13, t, u]
    · pointwise [k0_pay24, k0_pay5, k0_pay3, t, centre, half]
    · pointwise [k0_pay25, k0_pay6, k0_pay4, t, centre, half]
    · pointwise [k0_pay26, k0_pay7, k0_pay3, t]
      exact congrArg Ideal.log (max_comm _ _)
    · pointwise [k0_pay27, k0_pay8, k0_pay4, t]
      exact congrArg Ideal.log (max_comm _ _)
  · have b : Ideal.cmp .ogt (over (spot x0 r l) g * a.2.1 (ix2 r l)) (a.1 (ix2 r l) * Spec.union (spot x0 r l) g) = 0#1 :=
      congrArg BitVec.ofBool (decide_eq_false c)
    rw [b] at t
    rw [if_neg c]
    unfold lane trip
    refine Prod.ext ?_ (Prod.ext ?_ (Prod.ext ?_ (Prod.ext ?_ (Prod.ext ?_ ?_))))
    · pointwise [k0_pay12, t]
    · pointwise [k0_pay13, t]
    · pointwise [k0_pay24, t]
    · pointwise [k0_pay25, t]
    · pointwise [k0_pay26, t]
    · pointwise [k0_pay27, t]

theorem start_at (v0 v2 v4 v6 : Vec Ideal S1x16x128 .f32) (box : ℕ → Fin 4 → EReal) :
    (lane (pass v0 v2 v4 v6 box 0) r l).1 = -1 ∧ (lane (pass v0 v2 v4 v6 box 0) r l).2.1 = 1 := by
  unfold lane pass
  constructor
  · pointwise [k0_pay22, k0_pay21]
    exact zero_sub 1
  · pointwise [k0_pay23, k0_pay21]

end Cert.KernelIdeal.Body

end
-- ==== Proof.KernelIdealLoss.lean ====
module

public import proofs.«01_k».proof.Proof.KernelIdealLane

/-!
What a block adds to the sums of its image: the losses of its anchors, and the number of them that count.
-/

@[expose] public section

noncomputable section

namespace Cert.KernelIdeal.Body

open Cert.KernelIdeal Cert.KernelIdeal.Gen
open Idealize.ShloMosaic Idealize.ShloMosaic.TcCoe
open Cert.Spec

set_option maxRecDepth 8192

/-- The loss at a distance as the kernel computes it. -/
theorem smooth_form (w c : EReal) :
    (if FloatOps.absf (F := Ideal) (φ := .f32) (w - c) ≤ Ideal.ofBits .f32 1038323257#32 then
        Ideal.ofBits .f32 1083179008#32 * FloatOps.absf (F := Ideal) (φ := .f32) (w - c) * FloatOps.absf (F := Ideal) (φ := .f32) (w - c)
      else FloatOps.absf (F := Ideal) (φ := .f32) (w - c) - Ideal.ofBits .f32 1029934649#32) = smooth (Spec.dist w c) := by
  rw [Ideal.absf_def, mul_assoc]
  rfl

theorem last_sum (h : IVec S16x128 1) (w v : FVec Ideal S16x128 .f32) (c : Vec Ideal S1x1x16x128 .f32) (old : EReal) :
    k0_pay1 (F := Ideal) h w v c old
      = old + ∑ r : Fin 16, ∑ l : Fin 128, Scalar.select (h (ix2 r l)) (v (ix2 r l) + smooth (Spec.dist (w (ix2 r l)) (c (ix4 0 0 r l)))) 0 := by
  pointwise [k0_pay1]
  simp only [smooth_form]

theorem count_sum (h : IVec S16x128 1) (old : EReal) :
    k0_pay2 (F := Ideal) h old = old + ∑ r : Fin 16, ∑ l : Fin 128, FloatOps.sitofp (F := Ideal) .f32 ((h (ix2 r l)).setWidth 32) := by
  pointwise [k0_pay2]

theorem three_sum (z w0 w1 w2 : FVec Ideal S16x128 .f32) (c0 c1 c2 : Vec Ideal S1x1x16x128 .f32) (r : Fin 16) (l : Fin 128) :
    (k0_pay33 z w0 w1 w2 c0 c1 c2 : FVec Ideal S16x128 .f32) (ix2 r l)
      = z (ix2 r l) + smooth (Spec.dist (w0 (ix2 r l)) (c0 (ix4 0 0 r l))) + smooth (Spec.dist (w1 (ix2 r l)) (c1 (ix4 0 0 r l)))
        + smooth (Spec.dist (w2 (ix2 r l)) (c2 (ix4 0 0 r l))) := by
  pointwise [k0_pay33]
  simp only [smooth_form]

/-- What was regressed for the anchor at row `r` and lane `l` of a block. -/
def guess (x1 : Vec Ideal S1x4x16x128 .f32) (r : Fin 16) (l : Fin 128) (j : Fin 4) : EReal := x1 (ix4 0 j r l)

/-- The boxes of image `b`. -/
def boxes (x2 : Vec Ideal S8x32x5 .f32) (b : Fin 8) (k : Fin 32) (j : Fin 4) : EReal := x2 (ix3 b k ⟨j.val, by omega⟩)

variable (x0 : Vec Ideal S4x16x128 .f32) (x1 : Vec Ideal S1x4x16x128 .f32) (x2 : Vec Ideal S8x32x5 .f32) (b : Fin 8) (r : Fin 16) (l : Fin 128)

theorem chan0_ld : chan0 x1 (ix4 0 0 r l) = guess x1 r l 0 := congrArg x1 (funext fun a => Fin.ext (by
  fin_cases a
  · rfl
  · rfl
  · exact (from_zero 0 _).trans (Nat.zero_add _)
  · exact (from_zero 0 _).trans (Nat.zero_add _)))
theorem chan1_ld : chan1 x1 (ix4 0 0 r l) = guess x1 r l 1 := congrArg x1 (funext fun a => Fin.ext (by
  fin_cases a
  · rfl
  · rfl
  · exact (from_zero 0 _).trans (Nat.zero_add _)
  · exact (from_zero 0 _).trans (Nat.zero_add _)))
theorem chan2_ld : chan2 x1 (ix4 0 0 r l) = guess x1 r l 2 := congrArg x1 (funext fun a => Fin.ext (by
  fin_cases a
  · rfl
  · rfl
  · exact (from_zero 0 _).trans (Nat.zero_add _)
  · exact (from_zero 0 _).trans (Nat.zero_add _)))
theorem chan3_ld : chan3 x1 (ix4 0 0 r l) = guess x1 r l 3 := congrArg x1 (funext fun a => Fin.ext (by
  fin_cases a
  · rfl
  · rfl
  · exact (from_zero 0 _).trans (Nat.zero_add _)
  · exact (from_zero 0 _).trans (Nat.zero_add _)))

/-- What the pass ends with for that anchor. -/
abbrev found : EReal × EReal × EReal × EReal × EReal × EReal := lane (best x0 x2 b) r l

theorem found_pick : ∃ p, found x0 x2 b r l = mark (spot x0 r l) (boxes x2 b p)
    ∧ (half ≤ ratio (spot x0 r l) (boxes x2 b p) ↔ Hit (spot x0 r l) (boxes x2 b))
    ∧ (Hit (spot x0 r l) (boxes x2 b) → p = pick (spot x0 r l) (boxes x2 b)) :=
  pass_pick (g := boxOf x2 b) (s := fun k => lane (pass (plane0 x0) (plane1 x0) (plane2 x0) (plane3 x0) (boxOf x2 b) k) r l)
    (fun k => funext fun j => congrArg x2 (congrArg (fun q => ix3 b q _) (Fin.ext (Nat.mod_eq_of_lt k.isLt)))) (start_at r l _ _ _ _ _)
    (fun k => trip_at x0 r l _ _)

theorem aim0_at : (k0_pay29 (plane0 x0) (plane2 x0) (best x0 x2 b).2.2.2.1 : FVec Ideal S16x128 .f32) (ix2 r l)
    = aim (spot x0 r l) (found x0 x2 b r l) 0 := by
  unfold aim found lane
  rw [← plane0_ld, ← plane2_ld]
  pointwise [k0_pay29, k0_pay19, k0_pay14, k0_pay16, centre, half]
theorem aim1_at : (k0_pay30 (plane1 x0) (plane3 x0) (best x0 x2 b).2.2.1 : FVec Ideal S16x128 .f32) (ix2 r l)
    = aim (spot x0 r l) (found x0 x2 b r l) 1 := by
  unfold aim found lane
  rw [← plane1_ld, ← plane3_ld]
  pointwise [k0_pay30, k0_pay18, k0_pay15, k0_pay17, centre, half]
theorem aim2_at : (k0_pay31 (plane0 x0) (plane2 x0) (best x0 x2 b).2.2.2.2.2 : FVec Ideal S16x128 .f32) (ix2 r l)
    = aim (spot x0 r l) (found x0 x2 b r l) 2 := by
  unfold aim found lane
  rw [← plane0_ld, ← plane2_ld]
  pointwise [k0_pay31, k0_pay19, k0_pay14, k0_pay16]
theorem aim3_at : (k0_pay32 (plane1 x0) (plane3 x0) (best x0 x2 b).2.2.2.2.1 : FVec Ideal S16x128 .f32) (ix2 r l)
    = aim (spot x0 r l) (found x0 x2 b r l) 3 := by
  unfold aim found lane
  rw [← plane1_ld, ← plane3_ld]
  pointwise [k0_pay32, k0_pay18, k0_pay15, k0_pay17]

theorem two_word : Ideal.ofBits .f32 1073741824#32 = 2 := by
  simp [Ideal.ofBits, Ideal.ieee, -EReal.coe_mul]
  norm_num
  rfl

open Classical in
theorem hits_at : hits x0 x2 b (ix2 r l) = BitVec.ofBool (decide ((found x0 x2 b r l).2.1 ≤ (found x0 x2 b r l).1 * 2)) := by
  unfold hits found lane
  pointwise [k0_pay28]
  rw [two_word]

/-- What a block adds to the losses of its image. -/
theorem lossAdd_eq (old : EReal) : lossAdd x0 x1 x2 b old
    = old + ∑ r, ∑ l, anchorLoss (spot x0 r l) (boxes x2 b) (guess x1 r l) := by
  unfold lossAdd
  rw [last_sum]
  refine congrArg (old + ·) (Finset.sum_congr rfl fun r _ => Finset.sum_congr rfl fun l _ => ?_)
  obtain ⟨p, e, hh, hp⟩ := found_pick x0 x2 b r l
  rw [three_sum, aim0_at, aim1_at, aim2_at, aim3_at, chan0_ld, chan1_ld, chan2_ld, chan3_ld, hits_at, ← anchorLoss_eq e hh hp, Fin.sum_univ_four]
  rw [show (k0_pay21 : FVec Ideal S16x128 .f32) (ix2 r l) = 0 by pointwise [k0_pay21], zero_add]
  by_cases h : (found x0 x2 b r l).2.1 ≤ (found x0 x2 b r l).1 * 2
  · rw [if_pos h, decide_eq_true h]
    rfl
  · rw [if_neg h, decide_eq_false h]
    rfl

open Classical in
/-- What a block adds to the count of its image. -/
theorem countAdd_eq (old : EReal) : countAdd x0 x2 b old
    = old + ∑ r, ∑ l, if Hit (spot x0 r l) (boxes x2 b) then 1 else 0 := by
  unfold countAdd
  rw [count_sum]
  refine congrArg (old + ·) (Finset.sum_congr rfl fun r _ => Finset.sum_congr rfl fun l _ => ?_)
  obtain ⟨p, e, hh, hp⟩ := found_pick x0 x2 b r l
  have q : (found x0 x2 b r l).2.1 ≤ (found x0 x2 b r l).1 * 2 ↔ Hit (spot x0 r l) (boxes x2 b) := by
    rw [e]
    exact (half_le_iff _ _).trans hh
  rw [hits_at]
  by_cases h : Hit (spot x0 r l) (boxes x2 b)
  · rw [if_pos h, decide_eq_true (q.2 h)]
    show (((1 : ℤ) : ℝ) : EReal) = 1
    simp
  · rw [if_neg h, decide_eq_false (fun e => h (q.1 e))]
    show (((0 : ℤ) : ℝ) : EReal) = 0
    simp

end Cert.KernelIdeal.Body

end
-- ==== Proof.Blocks.lean ====
module

public import Mathlib.Algebra.BigOperators.Fin
public import Mathlib.Algebra.BigOperators.Intervals
public import Mathlib.Data.EReal.Operations

/-!
A running sum over blocks of rows of lanes is the sum over all the numbers they hold.
-/

@[expose] public section

namespace Cert.Spec

variable {M : Type} [AddCommMonoid M]

/-- A sum over rows of `w` numbers each. -/
theorem sum_rows (f : ℕ → M) (w n : ℕ) : ∑ k ∈ Finset.range n, ∑ r : Fin w, f (w * k + r.val) = ∑ i ∈ Finset.range (w * n), f i := by
  induction n with
  | zero => simp
  | succ n ih => rw [Finset.sum_range_succ, ih, Nat.mul_succ, Finset.sum_range_add, Finset.sum_range (fun i => f (w * n + i))]

/-- A sum that grows by one block of 16 rows of 128 numbers at a time. -/
theorem sum_blocks (f s : ℕ → M) (h0 : s 0 = 0) (n : ℕ)
    (hs : ∀ k < n, s (k + 1) = s k + ∑ r : Fin 16, ∑ l : Fin 128, f ((16 * k + r.val) * 128 + l.val)) :
    s n = ∑ i ∈ Finset.range (128 * (16 * n)), f i := by
  rw [← sum_rows f 128 (16 * n), ← sum_rows (fun q => ∑ l : Fin 128, f (128 * q + l.val)) 16 n]
  induction n with
  | zero => simpa using h0
  | succ n ih =>
    rw [hs n (Nat.lt_succ_self n), ih fun k h => hs k (h.trans (Nat.lt_succ_self n)), Finset.sum_range_succ]
    simp only [Nat.mul_comm 128]

/-- A sum of numbers that are nought from `n` on. -/
theorem sum_real (g : ℕ → M) (n k : ℕ) (h : ∀ i, ¬ i < n → g i = 0) : ∑ i ∈ Finset.range (n + k), g i = ∑ i : Fin n, g i.val := by
  rw [Finset.sum_range_add, Finset.sum_range, Finset.sum_eq_zero (s := Finset.range k) fun i _ => h (n + i) (by omega), add_zero]

/-- A count as a sum of extended reals. -/
theorem sum_ones {ι : Type} [Fintype ι] (P : ι → Prop) [DecidablePred P] :
    (∑ i, if P i then (1 : EReal) else 0) = ((Finset.univ.filter P).card : EReal) := by
  rw [Finset.sum_boole]

end Cert.Spec
-- ==== Proof.KernelIdealValue.lean ====
module

public import proofs.«01_k».proof.Proof.KernelIdealHost
public import proofs.«01_k».proof.Proof.KernelIdealLoss
public import proofs.«01_k».proof.Proof.KernelIdealRun
public import proofs.«01_k».proof.Proof.Blocks

/-!
The kernel's result as plain arithmetic on its arguments.
-/

@[expose] public section

noncomputable section

namespace Cert.KernelIdeal.Body

open Cert.KernelIdeal Cert.KernelIdeal.Gen
open Idealize.ShloMosaic Idealize.ShloMosaic.TcCoe
open Cert.Spec

set_option maxRecDepth 8192

/-- The four coordinates of anchor `n`. -/
def anchorOf (A : Vec Ideal S1x20000x4 .f32) (n : Fin 20000) (j : Fin 4) : EReal := A (ix3 0 n j)
/-- What was regressed for anchor `n` of image `b`. -/
def guessOf (R : Vec Ideal S8x20000x4 .f32) (b : Fin 8) (n : Fin 20000) (j : Fin 4) : EReal := R (ix3 b n j)

variable (m : (ℓ : Loc nD τ sig) → Buf (Elt Ideal) ℓ) (c : Dev nD)

/-- The arguments. -/
abbrev argR : Vec Ideal S8x20000x4 .f32 := m ((c.tc : Thread nD τ).loc main_arg0)
abbrev argA : Vec Ideal S1x20000x4 .f32 := m ((c.tc : Thread nD τ).loc main_arg1)
abbrev argG : Vec Ideal S8x32x5 .f32 := m ((c.tc : Thread nD τ).loc main_arg2)

/-- The padding's anchor. -/
def padSpot (j : Fin 4) : EReal := Ideal.ofBits .f32 (lit0 j)

/-- The anchor numbered `n`, padding included. -/
def anyAnchor (n : ℕ) : Fin 4 → EReal := if h : n < 20000 then anchorOf (argA m c) ⟨n, h⟩ else padSpot

theorem row_of {k : ℕ} (hk : k < 10) (r : Fin 16) : ∃ q : Fin 160, q.val = 16 * k + r.val := ⟨⟨16 * k + r.val, by omega⟩, rfl⟩

theorem spot_eq (b : Fin 8) {k : ℕ} (hk : k < 10) (r : Fin 16) (l : Fin 128) :
    spot (anchorsAt m c (pointOf b k)) r l = anyAnchor m c ((16 * k + r.val) * 128 + l.val) := by
  obtain ⟨q, hq⟩ := row_of hk r
  rw [← hq]
  funext j
  unfold spot anyAnchor
  rw [anchorsAt_at m c b hk r l j hq]
  by_cases h : q.val * 128 + l.val < 20000
  · rw [dif_pos h]
    exact anchors_real (V0 m c) rfl j q l h
  · rw [dif_neg h]
    exact anchors_pad (V0 m c) j q l h

theorem guess_eq (b : Fin 8) {k : ℕ} (hk : k < 10) (r : Fin 16) (l : Fin 128) {n : Fin 20000} (hn : n.val = (16 * k + r.val) * 128 + l.val) :
    guess (regressAt m c (pointOf b k)) r l = guessOf (argR m c) b n := by
  obtain ⟨q, hq⟩ := row_of hk r
  rw [← hq] at hn
  have h : q.val * 128 + l.val < 20000 := hn ▸ n.isLt
  obtain rfl : n = ⟨q.val * 128 + l.val, h⟩ := Fin.ext hn
  funext j
  unfold guess
  rw [regressAt_at m c b hk r l j hq]
  exact guesses_real (V0 m c) rfl b j q l h

theorem boxes_eq (b : Fin 8) (k : ℕ) : boxes (boxesAt m c (pointOf b k)) b = boxes (argG m c) b := by
  funext q j
  unfold boxes
  rw [boxesAt_at]
  exact congrFun (V1_of m c main_arg2 (by decide)) _

/-- Every box lies right of the padding. -/
def Right : Prop := ∀ b k, padSpot 3 ≤ boxes (argG m c) b k 0

theorem pad_not_hit (h : Right m c) (b : Fin 8) : ¬ Hit padSpot (boxes (argG m c) b) := not_hit_of_left (h b)

/-- The loss of the anchor numbered `n`. -/
def anyLoss (b : Fin 8) (n : ℕ) : EReal :=
  if h : n < 20000 then anchorLoss (anchorOf (argA m c) ⟨n, h⟩) (boxes (argG m c) b) (guessOf (argR m c) b ⟨n, h⟩) else 0

open Classical in
/-- One if the anchor numbered `n` counts. -/
def anyHit (b : Fin 8) (n : ℕ) : EReal := if h : n < 20000 then if Hit (anchorOf (argA m c) ⟨n, h⟩) (boxes (argG m c) b) then 1 else 0 else 0

variable {m c}

theorem block_loss (hr : Right m c) (b : Fin 8) {k : ℕ} (hk : k < 10) (r : Fin 16) (l : Fin 128) :
    anchorLoss (spot (anchorsAt m c (pointOf b k)) r l) (boxes (boxesAt m c (pointOf b k)) b) (guess (regressAt m c (pointOf b k)) r l)
      = anyLoss m c b ((16 * k + r.val) * 128 + l.val) := by
  rw [spot_eq m c b hk, boxes_eq]
  unfold anyLoss anyAnchor
  by_cases h : (16 * k + r.val) * 128 + l.val < 20000
  · rw [dif_pos h, dif_pos h, guess_eq m c b hk r l (n := ⟨_, h⟩) rfl]
  · rw [dif_neg h, dif_neg h]
    exact if_neg (pad_not_hit m c hr b)

open Classical in
theorem block_hit (hr : Right m c) (b : Fin 8) {k : ℕ} (hk : k < 10) (r : Fin 16) (l : Fin 128) :
    (if Hit (spot (anchorsAt m c (pointOf b k)) r l) (boxes (boxesAt m c (pointOf b k)) b) then (1 : EReal) else 0)
      = anyHit m c b ((16 * k + r.val) * 128 + l.val) := by
  rw [spot_eq m c b hk, boxes_eq]
  unfold anyHit anyAnchor
  by_cases h : (16 * k + r.val) * 128 + l.val < 20000
  · rw [dif_pos h, dif_pos h]
  · rw [dif_neg h, dif_neg h]
    exact if_neg (pad_not_hit m c hr b)

theorem zero_word : (Scalar.ofBits .f32 0x00000000#32 : Ideal .f32) = (0 : EReal) := by
  show Ideal.ofBits .f32 0x00000000#32 = 0
  simp [Ideal.ofBits, Ideal.ieee]

theorem lossSum_eq (hr : Right m c) (b : Fin 8) :
    lossSum m c b 10 = ∑ n, anchorLoss (anchorOf (argA m c) n) (boxes (argG m c) b) (guessOf (argR m c) b n) := by
  have e := sum_blocks (anyLoss m c b) (lossSum m c b) zero_word 10 fun k hk => by
    refine (lossAdd_eq _ _ _ b _).trans ?_
    simp only [block_loss hr b hk]
  rw [e, show 128 * (16 * 10) = 20000 + 480 from rfl, sum_real (anyLoss m c b) 20000 480 fun i hi => dif_neg hi]
  refine Finset.sum_congr rfl fun n _ => ?_
  exact dif_pos n.isLt

open Classical in
/-- How many anchors of image `b` count. -/
def countOf (A : Vec Ideal S1x20000x4 .f32) (G : Vec Ideal S8x32x5 .f32) (b : Fin 8) : ℕ :=
  (Finset.univ.filter fun n => Hit (anchorOf A n) (boxes G b)).card

open Classical in
theorem countSum_eq (hr : Right m c) (b : Fin 8) : countSum m c b 10 = (countOf (argA m c) (argG m c) b : EReal) := by
  have e := sum_blocks (anyHit m c b) (countSum m c b) zero_word 10 fun k hk => by
    refine (countAdd_eq _ _ b _).trans ?_
    simp only [block_hit hr b hk]
  rw [e, show 128 * (16 * 10) = 20000 + 480 from rfl, sum_real (anyHit m c b) 20000 480 fun i hi => dif_neg hi]
  unfold countOf
  rw [← sum_ones]
  refine Finset.sum_congr rfl fun n _ => ?_
  exact dif_pos n.isLt

/-! ## The last step -/

/-- What an image with sum `s` and count `n` gives, as the kernel computes it. -/
def part (s n : EReal) : EReal :=
  Scalar.select (Ideal.cmp .ogt n (Ideal.ofBits .f32 0x00000000#32))
    (Ideal.div s (Ideal.ofBits .f32 0x40800000#32 * max n (Ideal.ofBits .f32 0x3F800000#32))) (Ideal.ofBits .f32 0x00000000#32)

theorem combine_eq (x : Vec Ideal S8x2 .f32) :
    combine x = (∑ b, part (x (ix2 b 0)) (x (ix2 b 1))) * Ideal.ofBits .f32 0x40C80000#32 := by
  rw [Fin.sum_univ_eight]
  refine Eq.trans (b := (Ideal.ofBits .f32 0x00000000#32 + part (x (ix2 0 0)) (x (ix2 0 1)) + part (x (ix2 1 0)) (x (ix2 1 1))
    + part (x (ix2 2 0)) (x (ix2 2 1)) + part (x (ix2 3 0)) (x (ix2 3 1)) + part (x (ix2 4 0)) (x (ix2 4 1)) + part (x (ix2 5 0)) (x (ix2 5 1))
    + part (x (ix2 6 0)) (x (ix2 6 1)) + part (x (ix2 7 0)) (x (ix2 7 1))) * Ideal.ofBits .f32 0x40C80000#32) rfl ?_
  rw [show Ideal.ofBits .f32 0x00000000#32 = 0 from zero_word, zero_add]

theorem one_word : Ideal.ofBits .f32 0x3F800000#32 = 1 := by
  simp [Ideal.ofBits, Ideal.ieee, -EReal.coe_mul]
  norm_num

theorem four_word : Ideal.ofBits .f32 0x40800000#32 = 4 := by
  simp [Ideal.ofBits, Ideal.ieee, -EReal.coe_mul]
  norm_num
  rfl

theorem part_eq (s : EReal) (n : ℕ) : part s (n : EReal) = share s n := by
  unfold part share
  rw [show Ideal.ofBits .f32 0x00000000#32 = 0 from zero_word, four_word, one_word]
  by_cases h : 0 < n
  · have b : Ideal.cmp .ogt (n : EReal) 0 = 1#1 := congrArg BitVec.ofBool (decide_eq_true (show (0 : EReal) < n by exact_mod_cast h))
    rw [b, if_pos h, max_eq_left (by exact_mod_cast h : (1 : EReal) ≤ n), max_eq_left h]
    rfl
  · have b : Ideal.cmp .ogt (n : EReal) 0 = 0#1 := congrArg BitVec.ofBool (decide_eq_false (show ¬ (0 : EReal) < n by exact_mod_cast h))
    rw [b, if_neg h]
    rfl

/-- A mean over eight images times fifty. -/
theorem mean_scaled (s : EReal) :
    Ideal.div s (Ideal.ofBits .f32 0x41000000#32) * Ideal.ofBits .f32 0x42480000#32 = s * Ideal.ofBits .f32 0x40C80000#32 := by
  have e8 : Ideal.ofBits .f32 0x41000000#32 = ((8 : ℝ) : EReal) := by
    simp [Ideal.ofBits, Ideal.ieee, -EReal.coe_mul]
    norm_num
  have e50 : Ideal.ofBits .f32 0x42480000#32 = ((50 : ℝ) : EReal) := by
    simp [Ideal.ofBits, Ideal.ieee, -EReal.coe_mul]
    norm_num
  have e6 : Ideal.ofBits .f32 0x40C80000#32 = ((6.25 : ℝ) : EReal) := by
    simp [Ideal.ofBits, Ideal.ieee, -EReal.coe_mul]
    norm_num
  rw [e8, e50, e6]
  unfold Ideal.div
  rw [if_neg (by exact_mod_cast (by norm_num : (8 : ℝ) ≠ 0)), mul_assoc, ← EReal.coe_inv, ← EReal.coe_mul]
  norm_num

variable (m c) in
theorem entry_loss (n : ℕ) (b : Fin 8) : entry m c n (ix2 b 0) = lossSum m c b n := by
  unfold entry
  exact if_pos rfl
variable (m c) in
theorem entry_count (n : ℕ) (b : Fin 8) : entry m c n (ix2 b 1) = countSum m c b n := by
  unfold entry
  exact if_neg Nat.one_ne_zero

/-- The kernel's result. -/
theorem result_eq (hr : Right m c) : result m c
    = Ideal.div (∑ b, share (∑ n, anchorLoss (anchorOf (argA m c) n) (boxes (argG m c) b) (guessOf (argR m c) b n)) (countOf (argA m c) (argG m c) b))
        (Ideal.ofBits .f32 0x41000000#32) * Ideal.ofBits .f32 0x42480000#32 := by
  unfold result
  rw [combine_eq, mean_scaled]
  unfold final
  simp only [entry_loss, entry_count, lossSum_eq hr, countSum_eq hr, part_eq]

end Cert.KernelIdeal.Body

end
-- ==== Proof.ReferenceIdealRatio.lean ====
module

public import proofs.«01_k».proof.Proof.ReferenceIdealLine
public import proofs.«01_k».proof.Proof.Spec
public import Idealize.ShloMosaic.Lib.StableHlo.RunRead
public import Idealize.ShloMosaic.Lib.Pointwise

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Spec

set_option maxRecDepth 8192

/-- What a buffer of the host program holds. -/
abbrev at' (V : Valuation τ sig (Elt Ideal)) (r : Ref sig .tc) : r.ty.Contents (Elt Ideal) := V (Proc.devRef .tc r)

variable (V : Valuation τ sig (Elt Ideal)) {A : Vec Ideal S1x20000x4 .f32} {G : Vec Ideal S8x32x5 .f32} {R : Vec Ideal S8x20000x4 .f32}

/-- The four coordinates of anchor `n`. -/
def anchor (A : Vec Ideal S1x20000x4 .f32) (n : Fin 20000) (j : Fin 4) : EReal := A (ix3 0 n j)
/-- The four coordinates of box `k` of image `b`. -/
def box (G : Vec Ideal S8x32x5 .f32) (b : Fin 8) (k : Fin 32) (j : Fin 4) : EReal := G (ix3 b k ⟨j.val, by omega⟩)

theorem sizes_v0 (hA : V (Proc.devRef .tc main_arg1) = A) (n : Fin 20000) (j : Fin 4) :
    (after sizes V (Proc.devRef .tc main_v0) : Vec Ideal S20000x4 .f32) (ix2 n j) = anchor A n j := by
  after_reads_simp
  rw [hA]
  pointwise [anchor]

theorem sizes_width (hA : V (Proc.devRef .tc main_arg1) = A) (n : Fin 20000) :
    (after sizes V (Proc.devRef .tc main_v5) : Vec Ideal S20000 .f32) (ix1 n) = anchor A n 3 - anchor A n 1 := by
  after_reads_simp
  rw [hA]
  pointwise [anchor]

theorem sizes_height (hA : V (Proc.devRef .tc main_arg1) = A) (n : Fin 20000) :
    (after sizes V (Proc.devRef .tc main_v10) : Vec Ideal S20000 .f32) (ix1 n) = anchor A n 2 - anchor A n 0 := by
  after_reads_simp
  rw [hA]
  pointwise [anchor]

theorem sizes_cx (hA : V (Proc.devRef .tc main_arg1) = A) (n : Fin 20000) :
    (after sizes V (Proc.devRef .tc main_v15) : Vec Ideal S20000 .f32) (ix1 n) = centre (anchor A n 1) (anchor A n 3 - anchor A n 1) := by
  after_reads_simp
  rw [hA]
  pointwise [anchor, centre, half]

theorem sizes_cy (hA : V (Proc.devRef .tc main_arg1) = A) (n : Fin 20000) :
    (after sizes V (Proc.devRef .tc main_v20) : Vec Ideal S20000 .f32) (ix1 n) = centre (anchor A n 0) (anchor A n 2 - anchor A n 0) := by
  after_reads_simp
  rw [hA]
  pointwise [anchor, centre, half]

theorem boxAreas_box (hG : V (Proc.devRef .tc main_arg2) = G) (b : Fin 8) (k : Fin 32) (j : Fin 4) :
    (after boxAreas V (Proc.devRef .tc main_v21) : Vec Ideal S8x32x4 .f32) (ix3 b k j) = box G b k j := by
  after_reads_simp
  rw [hG]
  pointwise [box]

theorem boxAreas_area (hG : V (Proc.devRef .tc main_arg2) = G) (b : Fin 8) (k : Fin 32) :
    (after boxAreas V (Proc.devRef .tc main_v32) : Vec Ideal S8x32 .f32) (ix2 b k)
      = (box G b k 2 - box G b k 0) * (box G b k 3 - box G b k 1) := by
  after_reads_simp
  rw [hG]
  pointwise [box]

theorem widths_v (hA : ∀ n j, (V (Proc.devRef .tc main_v0) : Vec Ideal S20000x4 .f32) (ix2 n j) = anchor A n j)
    (hG : ∀ b k j, (V (Proc.devRef .tc main_v21) : Vec Ideal S8x32x4 .f32) (ix3 b k j) = box G b k j)
    (b : Fin 8) (n : Fin 20000) (k : Fin 32) :
    (after widths V (Proc.devRef .tc main_v53) : Vec Ideal S8x20000x32 .f32) (ix3 b n k)
      = min (anchor A n 3) (box G b k 2) - max (anchor A n 1) (box G b k 0) := by
  after_reads_simp
  pointwise
  simp only [← hA, ← hG]

theorem heights_v (hA : ∀ n j, (V (Proc.devRef .tc main_v0) : Vec Ideal S20000x4 .f32) (ix2 n j) = anchor A n j)
    (hG : ∀ b k j, (V (Proc.devRef .tc main_v21) : Vec Ideal S8x32x4 .f32) (ix3 b k j) = box G b k j)
    (b : Fin 8) (n : Fin 20000) (k : Fin 32) :
    (after heights1 (after heights0 V) (Proc.devRef .tc main_v74) : Vec Ideal S8x20000x32 .f32) (ix3 b n k)
      = min (anchor A n 2) (box G b k 3) - max (anchor A n 0) (box G b k 1) := by
  after_reads_simp
  pointwise
  simp only [← hA, ← hG]

theorem ratios_v (hA : ∀ n j, (V (Proc.devRef .tc main_v0) : Vec Ideal S20000x4 .f32) (ix2 n j) = anchor A n j)
    (hg : ∀ b k, (V (Proc.devRef .tc main_v32) : Vec Ideal S8x32 .f32) (ix2 b k) = (box G b k 2 - box G b k 0) * (box G b k 3 - box G b k 1))
    (hw : ∀ b n k, (V (Proc.devRef .tc main_v53) : Vec Ideal S8x20000x32 .f32) (ix3 b n k)
      = min (anchor A n 3) (box G b k 2) - max (anchor A n 1) (box G b k 0))
    (hh : ∀ b n k, (V (Proc.devRef .tc main_v74) : Vec Ideal S8x20000x32 .f32) (ix3 b n k)
      = min (anchor A n 2) (box G b k 3) - max (anchor A n 0) (box G b k 1))
    (b : Fin 8) (n : Fin 20000) (k : Fin 32) :
    (after ratios V (Proc.devRef .tc main_v98) : Vec Ideal S8x20000x32 .f32) (ix3 b n k) = ratio (anchor A n) (box G b k) := by
  after_reads_simp
  simp only [TRef.toBuf, TRef.ofBuf, cast_eq, id_eq]
  pointwise [ratio, union, over, tiny]
  simp only [hA, hg, hw, hh]

end Cert.ReferenceIdeal.Line
-- ==== Proof.ReferenceIdealPick.lean ====
module

public import proofs.«01_k».proof.Proof.First
public import proofs.«01_k».proof.Proof.ReferenceIdealRatio

/-!
The box an anchor is matched to in the reference: the first of those whose ratio is greatest.
-/

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Spec

set_option maxRecDepth 8192

theorem slt_small (a b : Fin 32) : IntOp.cmpi .slt (BitVec.ofNat 32 a.val) (BitVec.ofNat 32 b.val) = BitVec.ofBool (decide (a < b)) := by
  revert a b; decide

/-- One step of the arg-max keeps the pair that is ahead. -/
theorem pick_step (r : Fin 32 → EReal) (a b : Fin 32) :
    ∃ c, reducer_argmax_f32_i32 (F := Ideal) (r a, BitVec.ofNat 32 a.val) (r b, BitVec.ofNat 32 b.val) = (r c, BitVec.ofNat 32 c.val)
      ∧ (c = a ∨ c = b) ∧ Ahead r c a ∧ Ahead r c b := by
  unfold reducer_argmax_f32_i32
  simp only [Ideal.cmpf_def, Ideal.cmp, slt_small, IntOp.ori, IntOp.andi, Scalar.select]
  by_cases h : r b < r a
  · exact ⟨a, by simp [h, h.ne'], Or.inl rfl, ahead_self r a, Or.inl h⟩
  · by_cases e : r a = r b
    · by_cases l : a < b
      · exact ⟨a, by simp [h, e, l], Or.inl rfl, ahead_self r a, Or.inr ⟨e.symm, l.le⟩⟩
      · exact ⟨b, by simp [h, e, l], Or.inr rfl, Or.inr ⟨e, not_lt.1 l⟩, ahead_self r b⟩
    · exact ⟨b, by simp [h, e], Or.inr rfl, Or.inl (lt_of_le_of_ne (not_lt.1 h) e), ahead_self r b⟩

/-- Off the pair it starts from, the first step takes the other pair when that pair's value is above the least one. -/
theorem pick_start (r : Fin 32 → EReal) (b : Fin 32) (h : ⊥ < r b) :
    reducer_argmax_f32_i32 (F := Ideal) ((⊥ : EReal), 0#32) (r b, BitVec.ofNat 32 b.val) = (r b, BitVec.ofNat 32 b.val) := by
  unfold reducer_argmax_f32_i32
  simp [Ideal.cmpf_def, Ideal.cmp, IntOp.ori, IntOp.andi, Scalar.select, h.ne]

theorem pick_fold (r : Fin 32 → EReal) (l : List (Fin 32)) (a : Fin 32) :
    ∃ c, (l.map fun k => ((r k : EReal), BitVec.ofNat 32 k.val)).foldl (reducer_argmax_f32_i32 (F := Ideal)) (r a, BitVec.ofNat 32 a.val)
        = (r c, BitVec.ofNat 32 c.val) ∧ Ahead r c a ∧ ∀ k ∈ l, Ahead r c k := by
  induction l generalizing a with
  | nil => exact ⟨a, rfl, ahead_self r a, fun k hk => absurd hk List.not_mem_nil⟩
  | cons x l ih =>
    obtain ⟨b, hb, -, hba, hbx⟩ := pick_step r a x
    obtain ⟨c, hc, hcb, hl⟩ := ih b
    refine ⟨c, ?_, hcb.trans hba, fun k hk => ?_⟩
    · rw [List.map_cons, List.foldl_cons, hb, hc]
    · rcases List.mem_cons.1 hk with rfl | hk
      · exact hcb.trans hbx
      · exact hl k hk

/-- The arg-max over a list that names every place, from the least value. -/
theorem pick_all (r : Fin 32 → EReal) (hr : ∀ k, ⊥ < r k) (l : List (Fin 32)) (hl : ∀ k, k ∈ l) :
    ∃ c, (l.map fun k => ((r k : EReal), BitVec.ofNat 32 k.val)).foldl (reducer_argmax_f32_i32 (F := Ideal)) (⊥, 0#32)
        = (r c, BitVec.ofNat 32 c.val) ∧ First r c := by
  cases l with
  | nil => exact absurd (hl 0) List.not_mem_nil
  | cons x l =>
    obtain ⟨c, hc, hcx, h⟩ := pick_fold r l x
    refine ⟨c, ?_, fun k => ?_⟩
    · rw [List.map_cons, List.foldl_cons, pick_start r x (hr x), hc]
    · rcases List.mem_cons.1 (hl k) with rfl | hk
      · exact hcx
      · exact h k hk

/-- The pairs the arg-max meets for anchor `n` of image `b`. -/
theorem fiber_eq (x : Vec Ideal S8x20000x32 .f32) (b : Fin 8) (n : Fin 20000) :
    ∃ l : List (Fin 32), (∀ k, k ∈ l) ∧
      Host.argReduceFiber x (iotaInDim S8x20000x32 32 2) reducesTo_S8x20000x32_S8x20000_d2 (ix2 b n)
        = l.map fun k => ((x (ix3 b n k) : EReal), BitVec.ofNat 32 k.val) := by
  refine ⟨((List.finRange S8x20000x32.numel).filter fun p => reducesTo_S8x20000x32_S8x20000_d2.drop (S8x20000x32.rowMajor.symm p) = ix2 b n).map
    fun p => (show Fin 32 from S8x20000x32.rowMajor.symm p 2), fun k => ?_, ?_⟩
  · refine List.mem_map.2 ⟨S8x20000x32.rowMajor (ix3 b n k), List.mem_filter.2 ⟨List.mem_finRange _, ?_⟩, ?_⟩
    · rw [Equiv.symm_apply_apply]
      exact decide_eq_true ((reducesTo_S8x20000x32_S8x20000_d2.fiber_r3_a2 (ix2 b n) _).2 ⟨k, rfl⟩)
    · rw [Equiv.symm_apply_apply]
      rfl
  · unfold Host.argReduceFiber
    refine Eq.trans ?_ (List.map_map ..).symm
    refine List.map_congr_left fun p hp => ?_
    obtain ⟨k, hk⟩ := (reducesTo_S8x20000x32_S8x20000_d2.fiber_r3_a2 (ix2 b n) _).1 (of_decide_eq_true (List.mem_filter.1 hp).2)
    show _ = (x (ix3 b n (S8x20000x32.rowMajor.symm p 2)), BitVec.ofNat 32 (S8x20000x32.rowMajor.symm p 2).val)
    rw [← hk]
    rfl

theorem gather_row (x : Vec Ideal S8x32x5 .f32) (i : IVec S8x20000x1 32) (b : Fin 8) (n : Fin 20000) (j : Fin 5) (k : Fin 32)
    (h : i (ix3 b n 0) = BitVec.ofNat 32 k.val) :
    Host.gather gather_S8x32x5_S8x20000x1_S8x20000x5_2_1_0_0_1_2_115 x i (ix3 b n j) = x (ix3 b k j) := by
  unfold Host.gather
  refine congrArg x (funext fun a => Fin.ext ?_)
  match a with
  | ⟨0, _⟩ =>
    show 0 + b.val + 0 = b.val
    omega
  | ⟨1, _⟩ =>
    have e : ∀ q, GatherDims.siIdx gather_S8x32x5_S8x20000x1_S8x20000x5_2_1_0_0_1_2_115 (ix3 b n j) q = ix3 b n 0 := fun q => by
      funext a
      match a with
      | ⟨0, _⟩ => rfl
      | ⟨1, _⟩ => rfl
      | ⟨2, _⟩ => exact Fin.ext (by have := q.isLt; simp at this ⊢; omega)
    show min (i _).toInt.toNat (32 - 1) + 0 + 0 = k.val
    rw [e, h]
    clear h
    revert k
    decide
  | ⟨2, _⟩ =>
    show 0 + 0 + j.val = j.val
    omega

end Cert.ReferenceIdeal.Line
-- ==== Proof.ReferenceIdealTarget.lean ====
module

public import proofs.«01_k».proof.Proof.ReferenceIdealPick

/-!
The reference from the matched box on: the box's centre and size, the targets and the losses.
-/

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Spec

set_option maxRecDepth 8192

variable (V : Valuation τ sig (Elt Ideal)) {A : Vec Ideal S1x20000x4 .f32} {G : Vec Ideal S8x32x5 .f32} {R : Vec Ideal S8x20000x4 .f32}

theorem least_word : Ideal.ofBits .f32 0xFF800000#32 = ⊥ := by
  simp [Ideal.ofBits, Ideal.ieee]

theorem argmax_first {r : Fin 8 → Fin 20000 → Fin 32 → EReal} {x : Vec Ideal S8x20000x32 .f32} (hr : ∀ b n k, x (ix3 b n k) = r b n k)
    (b : Fin 8) (n : Fin 20000) (h0 : ∀ k, ⊥ < r b n k) :
    ∃ k, (Host.argReduce reducer_argmax_f32_i32 x (iotaInDim S8x20000x32 32 2) (constant (F := Ideal) S_ .f32 0xFF800000#32) (constantI S_ 32 0#32)
        reducesTo_S8x20000x32_S8x20000_d2 h_S_ (ix2 b n)).2 = BitVec.ofNat 32 k.val ∧ First (r b n) k := by
  obtain ⟨l, hl, e⟩ := fiber_eq x b n
  obtain ⟨k, hk, hF⟩ := pick_all (r b n) h0 l hl
  refine ⟨k, ?_, hF⟩
  rw [Ideal.argReduce_eq_reduce2, Host.reduce2_eq_foldl_fiber, e]
  have h : (constant (F := Ideal) S_ .f32 0xFF800000#32 : Vec Ideal S_ .f32) (Shape.Idx.first h_S_) = (⊥ : EReal) := by
    pointwise
    exact least_word
  simp only [hr]
  rw [h]
  exact congrArg Prod.snd hk

/-- The greatest ratio of an anchor, as the fold of the maximum. -/
theorem max_fold (x : Vec Ideal S8x20000x32 .f32) (v : Vec Ideal S_ .f32) (b : Fin 8) (n : Fin 20000) :
    Host.reduce (FloatOps.maximumf (F := Ideal) (φ := .f32)) x v reducesTo_S8x20000x32_S8x20000_d2 h_S_ (ix2 b n)
      = Finset.univ.fold max (v (Shape.Idx.first h_S_) : EReal) fun k : Fin 32 => (x (ix3 b n k) : EReal) := by
  rw [Host.reduce_eq_fold, reducesTo_S8x20000x32_S8x20000_d2.fold_fiber_r3_a2]
  rfl

theorem picks_max : (after picks V (Proc.devRef .tc main_v99) : Vec Ideal S8x20000 .f32)
    = Host.reduce (FloatOps.maximumf (F := Ideal) (φ := .f32)) (V (Proc.devRef .tc main_v98)) (constant (F := Ideal) S_ .f32 0xFF800000#32)
      reducesTo_S8x20000x32_S8x20000_d2 h_S_ := by
  after_reads_simp

theorem picks_cmp : (after picks V (Proc.devRef .tc main_v102) : IVec S8x20000 1)
    = cmpf (F := Ideal) (φ := .f32) .oge (after picks V (Proc.devRef .tc main_v99)) (broadcastInDim S8x20000 ![] bcast_S_S8x20000 (constant (F := Ideal) S_ .f32 0x3F000000#32)) := by
  after_reads_simp

theorem positive_of_max {r : Fin 8 → Fin 20000 → Fin 32 → EReal}
    (hr : ∀ b n k, (V (Proc.devRef .tc main_v98) : Vec Ideal S8x20000x32 .f32) (ix3 b n k) = r b n k) (b : Fin 8) (n : Fin 20000)
    {X : Vec Ideal S8x20000 .f32} (e : X = Host.reduce (FloatOps.maximumf (F := Ideal) (φ := .f32)) (V (Proc.devRef .tc main_v98)) (constant (F := Ideal) S_ .f32 0xFF800000#32)
      reducesTo_S8x20000x32_S8x20000_d2 h_S_) :
    (cmpf (F := Ideal) (φ := .f32) .oge X (broadcastInDim S8x20000 ![] bcast_S_S8x20000 (constant (F := Ideal) S_ .f32 0x3F000000#32))) (ix2 b n)
      = Ideal.cmp .oge (Finset.univ.fold max (Ideal.ofBits .f32 0xFF800000#32) fun k => r b n k) half := by
  have hX := (congrFun e (ix2 b n)).trans (max_fold _ _ b n)
  refine Eq.trans (b := Ideal.cmp .oge (X (ix2 b n)) half) (by pointwise [half]) ?_
  rw [hX]
  simp only [hr]
  refine congrArg (Ideal.cmp .oge · half) ?_
  refine congrArg (fun z : EReal => Finset.univ.fold max z fun k => r b n k) ?_
  pointwise

theorem picks_positive {r : Fin 8 → Fin 20000 → Fin 32 → EReal}
    (hr : ∀ b n k, (V (Proc.devRef .tc main_v98) : Vec Ideal S8x20000x32 .f32) (ix3 b n k) = r b n k) (b : Fin 8) (n : Fin 20000) :
    (after picks V (Proc.devRef .tc main_v102) : IVec S8x20000 1) (ix2 b n)
      = Ideal.cmp .oge (Finset.univ.fold max (Ideal.ofBits .f32 0xFF800000#32) fun k => r b n k) half :=
  (congrFun (picks_cmp V) _).trans (positive_of_max V hr b n (picks_max V))

/-- The box matched to an anchor, among those of an image, is the first whose ratio is greatest. -/
theorem picks_row {r : Fin 8 → Fin 20000 → Fin 32 → EReal}
    (hr : ∀ b n k, (V (Proc.devRef .tc main_v98) : Vec Ideal S8x20000x32 .f32) (ix3 b n k) = r b n k) (b : Fin 8) (n : Fin 20000)
    (h0 : ∀ k, ⊥ < r b n k) {k : Fin 32} (hk : First (r b n) k) (j : Fin 5) :
    (after picks V (Proc.devRef .tc main_v109) : Vec Ideal S8x20000x5 .f32) (ix3 b n j)
      = (V (Proc.devRef .tc main_arg2) : Vec Ideal S8x32x5 .f32) (ix3 b k j) := by
  after_reads_simp
  simp only [TRef.toBuf, TRef.ofBuf, cast_eq, id_eq]
  refine gather_row _ _ b n j k ?_
  obtain ⟨k', e, hF⟩ := argmax_first hr b n h0
  obtain rfl := hF.unique hk
  pointwise
  rw [e]
  clear e hF hk
  revert k'
  decide

theorem gt_cx {P : Fin 8 → Fin 20000 → Fin 5 → EReal}
    (hP : ∀ b n j, (V (Proc.devRef .tc main_v109) : Vec Ideal S8x20000x5 .f32) (ix3 b n j) = P b n j) (b : Fin 8) (n : Fin 20000) :
    (after gt1 (after gt0 V) (Proc.devRef .tc main_v124) : Vec Ideal S8x20000 .f32) (ix2 b n) = centre (P b n 0) (P b n 2 - P b n 0) := by
  after_reads_simp
  pointwise [centre, half]
  simp only [hP]

theorem gt_cy {P : Fin 8 → Fin 20000 → Fin 5 → EReal}
    (hP : ∀ b n j, (V (Proc.devRef .tc main_v109) : Vec Ideal S8x20000x5 .f32) (ix3 b n j) = P b n j) (b : Fin 8) (n : Fin 20000) :
    (after gt1 (after gt0 V) (Proc.devRef .tc main_v129) : Vec Ideal S8x20000 .f32) (ix2 b n) = centre (P b n 1) (P b n 3 - P b n 1) := by
  after_reads_simp
  pointwise [centre, half]
  simp only [hP]

theorem gt_width {P : Fin 8 → Fin 20000 → Fin 5 → EReal}
    (hP : ∀ b n j, (V (Proc.devRef .tc main_v109) : Vec Ideal S8x20000x5 .f32) (ix3 b n j) = P b n j) (b : Fin 8) (n : Fin 20000) :
    (after gt1 (after gt0 V) (Proc.devRef .tc main_v130) : Vec Ideal S8x20000 .f32) (ix2 b n) = max 1 (P b n 2 - P b n 0) := by
  after_reads_simp
  simp only [TRef.toBuf, TRef.ofBuf, cast_eq, id_eq]
  pointwise
  simp only [hP]

theorem gt_height {P : Fin 8 → Fin 20000 → Fin 5 → EReal}
    (hP : ∀ b n j, (V (Proc.devRef .tc main_v109) : Vec Ideal S8x20000x5 .f32) (ix3 b n j) = P b n j) (b : Fin 8) (n : Fin 20000) :
    (after gt1 (after gt0 V) (Proc.devRef .tc main_v131) : Vec Ideal S8x20000 .f32) (ix2 b n) = max 1 (P b n 3 - P b n 1) := by
  after_reads_simp
  simp only [TRef.toBuf, TRef.ofBuf, cast_eq, id_eq]
  pointwise
  simp only [hP]

/-- The four targets of an anchor, from the anchor's and the box's centres and sizes. -/
def goals (acx acy aw ah gcx gcy gw gh : EReal) : Fin 4 → EReal :=
  ![Ideal.div (gcy - acy) ah, Ideal.div (gcx - acx) aw, Ideal.log (Ideal.div gh ah), Ideal.log (Ideal.div gw aw)]

theorem targets_dy {aw ah acx acy : Fin 20000 → EReal} {gw gh gcx gcy : Fin 8 → Fin 20000 → EReal}
    (haw : ∀ n, (V (Proc.devRef .tc main_v5) : Vec Ideal S20000 .f32) (ix1 n) = aw n)
    (hah : ∀ n, (V (Proc.devRef .tc main_v10) : Vec Ideal S20000 .f32) (ix1 n) = ah n)
    (hacx : ∀ n, (V (Proc.devRef .tc main_v15) : Vec Ideal S20000 .f32) (ix1 n) = acx n)
    (hacy : ∀ n, (V (Proc.devRef .tc main_v20) : Vec Ideal S20000 .f32) (ix1 n) = acy n)
    (hgcx : ∀ b n, (V (Proc.devRef .tc main_v124) : Vec Ideal S8x20000 .f32) (ix2 b n) = gcx b n)
    (hgcy : ∀ b n, (V (Proc.devRef .tc main_v129) : Vec Ideal S8x20000 .f32) (ix2 b n) = gcy b n)
    (hgw : ∀ b n, (V (Proc.devRef .tc main_v130) : Vec Ideal S8x20000 .f32) (ix2 b n) = gw b n)
    (hgh : ∀ b n, (V (Proc.devRef .tc main_v131) : Vec Ideal S8x20000 .f32) (ix2 b n) = gh b n) (b : Fin 8) (n : Fin 20000) :
    (after targets V (Proc.devRef .tc main_v152) : Vec Ideal S8x20000x1 .f32) (ix3 b n 0) = goals (acx n) (acy n) (aw n) (ah n) (gcx b n) (gcy b n) (gw b n) (gh b n) 0 := by
  after_reads_simp
  pointwise [goals]
  simp only [haw, hah, hacx, hacy, hgcx, hgcy, hgw, hgh]

theorem targets_dx {aw ah acx acy : Fin 20000 → EReal} {gw gh gcx gcy : Fin 8 → Fin 20000 → EReal}
    (haw : ∀ n, (V (Proc.devRef .tc main_v5) : Vec Ideal S20000 .f32) (ix1 n) = aw n)
    (hah : ∀ n, (V (Proc.devRef .tc main_v10) : Vec Ideal S20000 .f32) (ix1 n) = ah n)
    (hacx : ∀ n, (V (Proc.devRef .tc main_v15) : Vec Ideal S20000 .f32) (ix1 n) = acx n)
    (hacy : ∀ n, (V (Proc.devRef .tc main_v20) : Vec Ideal S20000 .f32) (ix1 n) = acy n)
    (hgcx : ∀ b n, (V (Proc.devRef .tc main_v124) : Vec Ideal S8x20000 .f32) (ix2 b n) = gcx b n)
    (hgcy : ∀ b n, (V (Proc.devRef .tc main_v129) : Vec Ideal S8x20000 .f32) (ix2 b n) = gcy b n)
    (hgw : ∀ b n, (V (Proc.devRef .tc main_v130) : Vec Ideal S8x20000 .f32) (ix2 b n) = gw b n)
    (hgh : ∀ b n, (V (Proc.devRef .tc main_v131) : Vec Ideal S8x20000 .f32) (ix2 b n) = gh b n) (b : Fin 8) (n : Fin 20000) :
    (after targets V (Proc.devRef .tc main_v153) : Vec Ideal S8x20000x1 .f32) (ix3 b n 0) = goals (acx n) (acy n) (aw n) (ah n) (gcx b n) (gcy b n) (gw b n) (gh b n) 1 := by
  after_reads_simp
  pointwise [goals]
  simp only [haw, hah, hacx, hacy, hgcx, hgcy, hgw, hgh]

theorem targets_dh {aw ah acx acy : Fin 20000 → EReal} {gw gh gcx gcy : Fin 8 → Fin 20000 → EReal}
    (haw : ∀ n, (V (Proc.devRef .tc main_v5) : Vec Ideal S20000 .f32) (ix1 n) = aw n)
    (hah : ∀ n, (V (Proc.devRef .tc main_v10) : Vec Ideal S20000 .f32) (ix1 n) = ah n)
    (hacx : ∀ n, (V (Proc.devRef .tc main_v15) : Vec Ideal S20000 .f32) (ix1 n) = acx n)
    (hacy : ∀ n, (V (Proc.devRef .tc main_v20) : Vec Ideal S20000 .f32) (ix1 n) = acy n)
    (hgcx : ∀ b n, (V (Proc.devRef .tc main_v124) : Vec Ideal S8x20000 .f32) (ix2 b n) = gcx b n)
    (hgcy : ∀ b n, (V (Proc.devRef .tc main_v129) : Vec Ideal S8x20000 .f32) (ix2 b n) = gcy b n)
    (hgw : ∀ b n, (V (Proc.devRef .tc main_v130) : Vec Ideal S8x20000 .f32) (ix2 b n) = gw b n)
    (hgh : ∀ b n, (V (Proc.devRef .tc main_v131) : Vec Ideal S8x20000 .f32) (ix2 b n) = gh b n) (b : Fin 8) (n : Fin 20000) :
    (after targets V (Proc.devRef .tc main_v154) : Vec Ideal S8x20000x1 .f32) (ix3 b n 0) = goals (acx n) (acy n) (aw n) (ah n) (gcx b n) (gcy b n) (gw b n) (gh b n) 2 := by
  after_reads_simp
  pointwise [goals]
  simp only [haw, hah, hacx, hacy, hgcx, hgcy, hgw, hgh]

theorem targets_dw {aw ah acx acy : Fin 20000 → EReal} {gw gh gcx gcy : Fin 8 → Fin 20000 → EReal}
    (haw : ∀ n, (V (Proc.devRef .tc main_v5) : Vec Ideal S20000 .f32) (ix1 n) = aw n)
    (hah : ∀ n, (V (Proc.devRef .tc main_v10) : Vec Ideal S20000 .f32) (ix1 n) = ah n)
    (hacx : ∀ n, (V (Proc.devRef .tc main_v15) : Vec Ideal S20000 .f32) (ix1 n) = acx n)
    (hacy : ∀ n, (V (Proc.devRef .tc main_v20) : Vec Ideal S20000 .f32) (ix1 n) = acy n)
    (hgcx : ∀ b n, (V (Proc.devRef .tc main_v124) : Vec Ideal S8x20000 .f32) (ix2 b n) = gcx b n)
    (hgcy : ∀ b n, (V (Proc.devRef .tc main_v129) : Vec Ideal S8x20000 .f32) (ix2 b n) = gcy b n)
    (hgw : ∀ b n, (V (Proc.devRef .tc main_v130) : Vec Ideal S8x20000 .f32) (ix2 b n) = gw b n)
    (hgh : ∀ b n, (V (Proc.devRef .tc main_v131) : Vec Ideal S8x20000 .f32) (ix2 b n) = gh b n) (b : Fin 8) (n : Fin 20000) :
    (after targets V (Proc.devRef .tc main_v155) : Vec Ideal S8x20000x1 .f32) (ix3 b n 0) = goals (acx n) (acy n) (aw n) (ah n) (gcx b n) (gcy b n) (gw b n) (gh b n) 3 := by
  after_reads_simp
  pointwise [goals]
  simp only [haw, hah, hacx, hacy, hgcx, hgcy, hgw, hgh]

theorem stack_v {T : Fin 8 → Fin 20000 → Fin 4 → EReal}
    (h0 : ∀ b n, (V (Proc.devRef .tc main_v152) : Vec Ideal S8x20000x1 .f32) (ix3 b n 0) = T b n 0)
    (h1 : ∀ b n, (V (Proc.devRef .tc main_v153) : Vec Ideal S8x20000x1 .f32) (ix3 b n 0) = T b n 1)
    (h2 : ∀ b n, (V (Proc.devRef .tc main_v154) : Vec Ideal S8x20000x1 .f32) (ix3 b n 0) = T b n 2)
    (h3 : ∀ b n, (V (Proc.devRef .tc main_v155) : Vec Ideal S8x20000x1 .f32) (ix3 b n 0) = T b n 3)
    (b : Fin 8) (n : Fin 20000) (j : Fin 4) :
    (after stack V (Proc.devRef .tc main_v156) : Vec Ideal S8x20000x4 .f32) (ix3 b n j) = T b n j := by
  after_reads_simp
  fin_cases j
  · pointwise
    exact h0 b n
  · pointwise
    exact h1 b n
  · pointwise
    exact h2 b n
  · pointwise
    exact h3 b n

theorem losses_v {T : Fin 8 → Fin 20000 → Fin 4 → EReal} {p : Fin 8 → Fin 20000 → BitVec 1}
    (hT : ∀ b n j, (V (Proc.devRef .tc main_v156) : Vec Ideal S8x20000x4 .f32) (ix3 b n j) = T b n j)
    (hR : V (Proc.devRef .tc main_arg0) = R)
    (hp : ∀ b n, (V (Proc.devRef .tc main_v102) : IVec S8x20000 1) (ix2 b n) = p b n) (b : Fin 8) (n : Fin 20000) (j : Fin 4) :
    (after losses (after diffs V) (Proc.devRef .tc main_v168) : Vec Ideal S8x20000x4 .f32) (ix3 b n j)
      = Scalar.select (p b n) (smooth (dist (T b n j) (R (ix3 b n j)))) 0 := by
  after_reads_simp
  simp only [TRef.toBuf, TRef.ofBuf, cast_eq, id_eq]
  pointwise [smooth, Spec.dist, knee, steep, drop, Ideal.absf_def]
  simp only [hT, hp, hR]

theorem means_v {L : Fin 8 → Fin 20000 → Fin 4 → EReal} {p : Fin 8 → Fin 20000 → BitVec 1}
    (hL : ∀ b n j, (V (Proc.devRef .tc main_v168) : Vec Ideal S8x20000x4 .f32) (ix3 b n j) = L b n j)
    (hp : ∀ b n, (V (Proc.devRef .tc main_v102) : IVec S8x20000 1) (ix2 b n) = p b n) :
    (after means V (Proc.devRef .tc main_v186) : Vec Ideal S1 .f32) (ix1 0)
      = Ideal.div (∑ b, Scalar.select (IntOp.cmpi .sgt (Finset.univ.fold IntOp.addi 0#32 fun n => (p b n).setWidth 32) 0#32)
          (Ideal.div (∑ n, ∑ j, L b n j) (Ideal.ofBits .f32 0x40800000#32
            * FloatOps.sitofp (F := Ideal) .f32 (IntOp.maxsi (Finset.univ.fold IntOp.addi 0#32 fun n => (p b n).setWidth 32) 1#32))) 0)
        (Ideal.ofBits .f32 0x41000000#32) * Ideal.ofBits .f32 0x42480000#32 := by
  after_reads_simp
  simp only [TRef.toBuf, TRef.ofBuf, cast_eq, id_eq]
  pointwise
  simp only [hL, hp]

end Cert.ReferenceIdeal.Line
-- ==== Proof.ReferenceIdealValue.lean ====
module

public import proofs.«01_k».proof.Proof.ReferenceIdealTarget
public import proofs.«01_k».proof.Proof.ReferenceIdealRun
public import proofs.«01_k».proof.Proof.Pass
public import Idealize.ShloMosaic.Lib.IndicatorCount

/-!
The reference's result: the mean over the images of the mean loss of the anchors that count, times fifty.
-/

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Spec

set_option maxRecDepth 8192

variable (V : Valuation τ sig (Elt Ideal)) {A : Vec Ideal S1x20000x4 .f32} {G : Vec Ideal S8x32x5 .f32} {R : Vec Ideal S8x20000x4 .f32}

abbrev st1 : Valuation τ sig (Elt Ideal) := after boxAreas (after sizes V)
abbrev st2 : Valuation τ sig (Elt Ideal) := after heights1 (after heights0 (after widths V))
abbrev st5 : Valuation τ sig (Elt Ideal) := after gt1 (after gt0 V)
abbrev st6 : Valuation τ sig (Elt Ideal) := after stack (after targets V)
abbrev st7 : Valuation τ sig (Elt Ideal) := after losses (after diffs V)

theorem ops_eq : after ops V = after means (st7 (st6 (st5 (after picks (after ratios (st2 (st1 V))))))) := by
  simp only [ops, after_append]

/-- The ratio of anchor `n` and box `k` of image `b`. -/
abbrev rat (A : Vec Ideal S1x20000x4 .f32) (G : Vec Ideal S8x32x5 .f32) (b : Fin 8) (n : Fin 20000) (k : Fin 32) : EReal :=
  ratio (anchor A n) (box G b k)

theorem rat_v (hA : V (Proc.devRef .tc main_arg1) = A) (hG : V (Proc.devRef .tc main_arg2) = G) (b : Fin 8) (n : Fin 20000) (k : Fin 32) :
    (after ratios (st2 (st1 V)) (Proc.devRef .tc main_v98) : Vec Ideal S8x20000x32 .f32) (ix3 b n k) = rat A G b n k := by
  have k0 : ∀ V : Valuation τ sig (Elt Ideal), st2 V (Proc.devRef .tc main_v0) = V (Proc.devRef .tc main_v0) := fun V => by after_reads_simp
  have k0' : ∀ V : Valuation τ sig (Elt Ideal), after boxAreas V (Proc.devRef .tc main_v0) = V (Proc.devRef .tc main_v0) := fun V => by after_reads_simp
  have k1 : ∀ V : Valuation τ sig (Elt Ideal), after sizes V (Proc.devRef .tc main_arg2) = V (Proc.devRef .tc main_arg2) := fun V => by after_reads_simp
  have k32 : ∀ V : Valuation τ sig (Elt Ideal), st2 V (Proc.devRef .tc main_v32) = V (Proc.devRef .tc main_v32) := fun V => by after_reads_simp
  have k53 : ∀ V : Valuation τ sig (Elt Ideal), after heights1 (after heights0 V) (Proc.devRef .tc main_v53) = V (Proc.devRef .tc main_v53) :=
    fun V => by after_reads_simp
  have kw0 : ∀ V : Valuation τ sig (Elt Ideal), after widths V (Proc.devRef .tc main_v0) = V (Proc.devRef .tc main_v0) := fun V => by after_reads_simp
  have kw21 : ∀ V : Valuation τ sig (Elt Ideal), after widths V (Proc.devRef .tc main_v21) = V (Proc.devRef .tc main_v21) := fun V => by after_reads_simp
  have hv0 : ∀ n j, (st1 V (Proc.devRef .tc main_v0) : Vec Ideal S20000x4 .f32) (ix2 n j) = anchor A n j := fun n j =>
    (congrFun (k0' _) _).trans (sizes_v0 V hA n j)
  have hv21 : ∀ b k j, (st1 V (Proc.devRef .tc main_v21) : Vec Ideal S8x32x4 .f32) (ix3 b k j) = box G b k j := fun b k j =>
    boxAreas_box _ ((k1 V).trans hG) b k j
  refine ratios_v _ (fun n j => (congrFun (k0 _) _).trans (hv0 n j))
    (fun b k => (congrFun (k32 _) _).trans (boxAreas_area _ ((k1 V).trans hG) b k))
    (fun b n k => (congrFun (k53 _) _).trans (widths_v _ hv0 hv21 b n k))
    (fun b n k => heights_v _ (fun n j => (congrFun (kw0 _) _).trans (hv0 n j)) (fun b k j => (congrFun (kw21 _) _).trans (hv21 b k j)) b n k) b n k

open Classical in
/-- Whether anchor `n` of image `b` counts, as a bit. -/
abbrev hitBit (A : Vec Ideal S1x20000x4 .f32) (G : Vec Ideal S8x32x5 .f32) (b : Fin 8) (n : Fin 20000) : BitVec 1 :=
  BitVec.ofBool (decide (Hit (anchor A n) (box G b)))

theorem hit_v (hA : V (Proc.devRef .tc main_arg1) = A) (hG : V (Proc.devRef .tc main_arg2) = G) (b : Fin 8) (n : Fin 20000) :
    (after picks (after ratios (st2 (st1 V))) (Proc.devRef .tc main_v102) : IVec S8x20000 1) (ix2 b n) = hitBit A G b n := by
  rw [picks_positive _ (rat_v V hA hG), least_word, fold_max_best]
  unfold hitBit Ideal.cmp
  refine congrArg BitVec.ofBool ?_
  simp only [decide_eq_decide]
  exact Iff.rfl

theorem box_v (hA : V (Proc.devRef .tc main_arg1) = A) (hG : V (Proc.devRef .tc main_arg2) = G) (b : Fin 8) (n : Fin 20000) (j : Fin 5) :
    (after picks (after ratios (st2 (st1 V))) (Proc.devRef .tc main_v109) : Vec Ideal S8x20000x5 .f32) (ix3 b n j)
      = G (ix3 b (pick (anchor A n) (box G b)) j) := by
  have k2 : ∀ V : Valuation τ sig (Elt Ideal), after ratios (st2 (st1 V)) (Proc.devRef .tc main_arg2) = V (Proc.devRef .tc main_arg2) :=
    fun V => by after_reads_simp
  rw [picks_row _ (rat_v V hA hG) b n (fun k => (EReal.bot_lt_zero).trans_le (zero_le_ratio _ _)) (best_first _), k2, hG]
  rfl

/-- The part before the targets leaves the anchors' sizes, the regression and the bits alone. -/
theorem kept_v5 (V : Valuation τ sig (Elt Ideal)) : st5 (after picks (after ratios (st2 (after boxAreas V)))) (Proc.devRef .tc main_v5) = V (Proc.devRef .tc main_v5) := by
  after_reads_simp
theorem kept_v10 (V : Valuation τ sig (Elt Ideal)) : st5 (after picks (after ratios (st2 (after boxAreas V)))) (Proc.devRef .tc main_v10) = V (Proc.devRef .tc main_v10) := by
  after_reads_simp
theorem kept_v15 (V : Valuation τ sig (Elt Ideal)) : st5 (after picks (after ratios (st2 (after boxAreas V)))) (Proc.devRef .tc main_v15) = V (Proc.devRef .tc main_v15) := by
  after_reads_simp
theorem kept_v20 (V : Valuation τ sig (Elt Ideal)) : st5 (after picks (after ratios (st2 (after boxAreas V)))) (Proc.devRef .tc main_v20) = V (Proc.devRef .tc main_v20) := by
  after_reads_simp
theorem kept_R (V : Valuation τ sig (Elt Ideal)) :
    st6 (st5 (after picks (after ratios (st2 (st1 V))))) (Proc.devRef .tc main_arg0) = V (Proc.devRef .tc main_arg0) := by
  after_reads_simp
theorem kept_bit (V : Valuation τ sig (Elt Ideal)) : st6 (st5 V) (Proc.devRef .tc main_v102) = V (Proc.devRef .tc main_v102) := by
  after_reads_simp
theorem kept_bit' (V : Valuation τ sig (Elt Ideal)) : st7 V (Proc.devRef .tc main_v102) = V (Proc.devRef .tc main_v102) := by
  after_reads_simp

theorem target_v (hA : V (Proc.devRef .tc main_arg1) = A) (hG : V (Proc.devRef .tc main_arg2) = G) (b : Fin 8) (n : Fin 20000) (j : Fin 4) :
    (st6 (st5 (after picks (after ratios (st2 (st1 V))))) (Proc.devRef .tc main_v156) : Vec Ideal S8x20000x4 .f32) (ix3 b n j)
      = target (anchor A n) (box G b (pick (anchor A n) (box G b))) j := by
  have h5 := fun n => (congrFun (kept_v5 (after sizes V)) _).trans (sizes_width V hA n)
  have h10 := fun n => (congrFun (kept_v10 (after sizes V)) _).trans (sizes_height V hA n)
  have h15 := fun n => (congrFun (kept_v15 (after sizes V)) _).trans (sizes_cx V hA n)
  have h20 := fun n => (congrFun (kept_v20 (after sizes V)) _).trans (sizes_cy V hA n)
  have c124 := gt_cx _ (box_v V hA hG)
  have c129 := gt_cy _ (box_v V hA hG)
  have c130 := gt_width _ (box_v V hA hG)
  have c131 := gt_height _ (box_v V hA hG)
  exact stack_v (T := fun b n => target (anchor A n) (box G b (pick (anchor A n) (box G b)))) _
    (targets_dy _ h5 h10 h15 h20 c124 c129 c130 c131) (targets_dx _ h5 h10 h15 h20 c124 c129 c130 c131)
    (targets_dh _ h5 h10 h15 h20 c124 c129 c130 c131) (targets_dw _ h5 h10 h15 h20 c124 c129 c130 c131) b n j

open Classical in
/-- The number of anchors of image `b` that count. -/
def hitCount (A : Vec Ideal S1x20000x4 .f32) (G : Vec Ideal S8x32x5 .f32) (b : Fin 8) : ℕ :=
  (Finset.univ.filter fun n => Hit (anchor A n) (box G b)).card

theorem card_lt {ι : Type} [Fintype ι] (P : ι → Prop) [DecidablePred P] (h : Fintype.card ι < 2 ^ 31) : (Finset.univ.filter P).card < 2 ^ 31 :=
  lt_of_le_of_lt (Finset.card_le_univ _) h

open Classical in
theorem hitCount_lt (b : Fin 8) : hitCount A G b < 2 ^ 31 := card_lt (fun n => Hit (anchor A n) (box G b)) (by rw [Fintype.card_fin]; decide)

theorem count_bits {ι : Type} [Fintype ι] (P : ι → Prop) [DecidablePred P] :
    (Finset.univ.fold IntOp.addi 0#32 fun n => (BitVec.ofBool (decide (P n))).setWidth 32) = BitVec.ofNat 32 (Finset.univ.filter P).card := by
  rw [IndicatorCount.fold_addi_setWidth_eq_card]
  refine congrArg (fun s : Finset ι => BitVec.ofNat 32 s.card) (Finset.filter_congr fun n _ => ?_)
  by_cases h : P n <;> simp [h]

open Classical in
theorem count_word (b : Fin 8) : (Finset.univ.fold IntOp.addi 0#32 fun n => (hitBit A G b n).setWidth 32) = BitVec.ofNat 32 (hitCount A G b) :=
  count_bits fun n => Hit (anchor A n) (box G b)

theorem four_word : Ideal.ofBits .f32 0x40800000#32 = 4 := by
  simp [Ideal.ofBits, Ideal.ieee, -EReal.coe_mul]
  norm_num
  rfl

/-- An image's share from the count held as a word. -/
theorem share_word (s : EReal) {n : ℕ} (hn : n < 2 ^ 31) :
    Scalar.select (IntOp.cmpi .sgt (BitVec.ofNat 32 n) 0#32) (Ideal.div s (Ideal.ofBits .f32 0x40800000#32
        * FloatOps.sitofp (F := Ideal) .f32 (IntOp.maxsi (BitVec.ofNat 32 n) 1#32))) 0 = share s n := by
  have hi : (BitVec.ofNat 32 n).toInt = n := by
    have e : (BitVec.ofNat 32 n).toNat = n := by rw [BitVec.toNat_ofNat]; exact Nat.mod_eq_of_lt (by omega)
    rw [BitVec.toInt_eq_toNat_of_lt (by omega), e]
  unfold share
  rcases Nat.eq_zero_or_pos n with rfl | h
  · simp only [IntOp.cmpi, Scalar.select]
    rfl
  · have hs : IntOp.cmpi .sgt (BitVec.ofNat 32 n) 0#32 = 1#1 := by
      simp [IntOp.cmpi, BitVec.slt, hi, h]
    have hm : IntOp.maxsi (BitVec.ofNat 32 n) 1#32 = BitVec.ofNat 32 n := by
      unfold IntOp.maxsi
      rcases eq_or_lt_of_le (show 1 ≤ n from h) with rfl | h1
      · rfl
      · rw [if_pos (by simp only [BitVec.slt, hi, decide_eq_true_eq]; show (1 : ℤ) < n; exact_mod_cast h1)]
    rw [hs, if_pos h, four_word, hm, max_eq_left h]
    show Ideal.div s (4 * (((BitVec.ofNat 32 n).toInt : ℝ) : EReal)) = _
    rw [hi]
    simp

theorem masked_loss (b : Fin 8) (n : Fin 20000) :
    ∑ j, Scalar.select (hitBit A G b n) (smooth (Spec.dist (target (anchor A n) (box G b (pick (anchor A n) (box G b))) j) (R (ix3 b n j)))) 0
      = anchorLoss (anchor A n) (box G b) fun j => R (ix3 b n j) := by
  unfold anchorLoss hitBit loss
  by_cases h : Hit (anchor A n) (box G b) <;> simp [h, Scalar.select]

/-- The reference's result. -/
theorem value (hR : V (Proc.devRef .tc main_arg0) = R) (hA : V (Proc.devRef .tc main_arg1) = A) (hG : V (Proc.devRef .tc main_arg2) = G) :
    (after ops V (Proc.devRef .tc main_v186) : Vec Ideal S1 .f32) (ix1 0)
      = Ideal.div (∑ b, share (∑ n, anchorLoss (anchor A n) (box G b) fun j => R (ix3 b n j)) (hitCount A G b))
        (Ideal.ofBits .f32 0x41000000#32) * Ideal.ofBits .f32 0x42480000#32 := by
  rw [ops_eq]
  have hb := fun b n => (congrFun (kept_bit _) _).trans (hit_v V hA hG b n)
  have hL : ∀ b n j, (st7 (st6 (st5 (after picks (after ratios (st2 (st1 V)))))) (Proc.devRef .tc main_v168) : Vec Ideal S8x20000x4 .f32) (ix3 b n j)
      = Scalar.select (hitBit A G b n) (smooth (Spec.dist (target (anchor A n) (box G b (pick (anchor A n) (box G b))) j) (R (ix3 b n j)))) 0 :=
    fun b n j => losses_v _ (target_v V hA hG) ((kept_R V).trans hR) hb b n j
  have hp : ∀ b n, (st7 (st6 (st5 (after picks (after ratios (st2 (st1 V)))))) (Proc.devRef .tc main_v102) : IVec S8x20000 1) (ix2 b n) = hitBit A G b n :=
    fun b n => (congrFun (kept_bit' _) _).trans (hb b n)
  have hM := means_v _ (L := fun b n j => Scalar.select (hitBit A G b n)
    (smooth (Spec.dist (target (anchor A n) (box G b (pick (anchor A n) (box G b))) j) (R (ix3 b n j)))) 0) (p := fun b n => hitBit A G b n) hL hp
  rw [hM]
  simp only [count_word, share_word _ (hitCount_lt _), masked_loss]

end Cert.ReferenceIdeal.Line
-- ==== Proof.Agree.lean ====
module

public import proofs.«01_k».proof.Proof.Frames
public import proofs.«01_k».proof.Proof.KernelIdealValue
public import proofs.«01_k».proof.Proof.ReferenceIdealValue
public import Idealize.ShloMosaic.Lib.ReduceAll

/-!
Kernel and reference end with the same number.
-/

@[expose] public section

noncomputable section

namespace Cert.Proof

open Idealize.ShloMosaic Idealize.ShloMosaic.TcCoe Idealize.SL.Sem
open Cert.KernelIdeal.Body (Right result argA argG argR)

/-- The shape facts of the precondition. -/
theorem preFacts : Cert.Pre_boxes_right_of_padding.Facts where
  slices_S8x32x5_S8x32x1_0_0_0 := by decide
  shapeCasts_S8x32x1_S8x32 := by decide
  bcast_S_S8x32 := by decide
  reducesTo_S8x32_S_d0_1 := by decide
  h_S_ := by decide

theorem frame_kernelIdeal_pre : quiescent_KernelIdeal_pre_boxes_right_of_padding (hKernelIdeal := Cert.KernelIdeal.Gen.facts)
    (hPre_boxes_right_of_padding := preFacts) := fun m g _ =>
  (θ_run _ _ _).mono (fun _ h => ⟨fun c => (h.1 c).2, h.2⟩) (Cert.KernelIdeal.Body.run m g)

theorem frame_referenceIdeal_pre : quiescent_ReferenceIdeal_pre_boxes_right_of_padding (hReferenceIdeal := Cert.ReferenceIdeal.Gen.facts)
    (hPre_boxes_right_of_padding := preFacts) := fun m g _ =>
  (θ_run _ _ _).mono (fun _ h => ⟨fun c => (h.1 c).2, h.2⟩) (Cert.ReferenceIdeal.Line.run m g)

/-- What the precondition says. -/
theorem right_of_pre (m : (ℓ : Loc Cert.KernelIdeal.nD Cert.KernelIdeal.τ Cert.KernelIdeal.sig) → Buf (Elt Ideal) ℓ)
    (h : Pre_KernelIdeal_boxes_right_of_padding (hPre_boxes_right_of_padding := preFacts) m) (c : Dev Cert.KernelIdeal.nD) : Right m c := by
  intro b k
  letI := preFacts
  have e := congrFun (h c) ix0
  unfold Cert.Pre_boxes_right_of_padding.fn at e
  have f := Host.reduce_andi_all _ _ _ _ _ e (ix2 b k)
  have g : 1#1 = BitVec.ofBool (decide (Ideal.ofBits .f32 0xC61C3C00#32 ≤ argG m c (ix3 b k 0))) := f.symm.trans (by pointwise [])
  by_contra n
  rw [decide_eq_false (show ¬ Ideal.ofBits .f32 0xC61C3C00#32 ≤ argG m c (ix3 b k 0) from n)] at g
  exact absurd g (by decide)

/-- An array of one number has one place. -/
theorem only_place (i : Cert.ReferenceIdeal.S1.Idx) : i = ix1 0 := funext fun q => by
  obtain rfl : q = (0 : Fin 1) := Subsingleton.elim (α := Fin 1) _ _
  exact Subsingleton.elim (α := Fin 1) _ _

/-- The two results, as one number. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = argR m c)
    (h1 : m' ((c.tc : Thread Cert.ReferenceIdeal.nD Cert.ReferenceIdeal.τ).loc Cert.ReferenceIdeal.main_arg1) = argA m c)
    (h2 : m' ((c.tc : Thread Cert.ReferenceIdeal.nD Cert.ReferenceIdeal.τ).loc Cert.ReferenceIdeal.main_arg2) = argG m c) (hr : Right m c) :
    Cert.ReferenceIdeal.Line.V4 m' c (Proc.devRef .tc Cert.ReferenceIdeal.main_v186) = fun _ => result m c := by
  funext i
  obtain rfl : i = ix1 0 := only_place i
  exact (Cert.ReferenceIdeal.Line.value (StableHlo.launchContents m' c) h0 h1 h2).trans (Cert.KernelIdeal.Body.result_eq hr).symm

/-- Over the ideal numbers the kernel and the reference end with the same result. -/
theorem algebraic : algebraic_KernelIdeal_ReferenceIdeal_pre_boxes_right_of_padding (hKernelIdeal := Cert.KernelIdeal.Gen.facts)
    (hReferenceIdeal := Cert.ReferenceIdeal.Gen.facts) (hPre_boxes_right_of_padding := preFacts) := by
  intro m g m' g' hp ha
  refine ⟨fun c _ => result m c, (θ_run _ _ _).mono (fun _ h c => ?_) (Cert.KernelIdeal.Body.run m g),
    (θ_run _ _ _).mono (fun _ h c => ?_) (Cert.ReferenceIdeal.Line.run m' g')⟩
  · exact ⟨(h.1 c).1.trans (Cert.KernelIdeal.Body.V4_value m c), (h.1 c).2⟩
  · exact ⟨(h.1 c).1.trans (same m m' c (ha c).1 (ha c).2.1 (ha c).2.2 (right_of_pre m hp c)), (h.1 c).2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal

public import proofs.«01_k».proof.Proof.Agree

public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, preFacts,
  frame_kernel, frame_kernelIdeal, frame_kernelIdeal_pre, frame_referenceIdeal, frame_referenceIdeal_pre, trivial, algebraic⟩

end Cert.Proof

end
